-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x3x128x128x5 : Shape := ⟨5, ![32, 3, 128, 128, 5]⟩
abbrev S32x3x128x128x1 : Shape := ⟨5, ![32, 3, 128, 128, 1]⟩
abbrev S32x3x5x128x128 : Shape := ⟨5, ![32, 3, 5, 128, 128]⟩
abbrev S4x8x15x128x128 : Shape := ⟨5, ![4, 8, 15, 128, 128]⟩
abbrev S4x8x3x128x128 : Shape := ⟨5, ![4, 8, 3, 128, 128]⟩
abbrev S5x4x384x8x128 : Shape := ⟨5, ![5, 4, 384, 8, 128]⟩
abbrev S8x16x128 : Shape := ⟨3, ![8, 16, 128]⟩
abbrev S16x8x128 : Shape := ⟨3, ![16, 8, 128]⟩
abbrev S_ : Shape := ⟨0, ![]⟩
abbrev S16 : Shape := ⟨1, ![16]⟩
abbrev S1x8x1x16x128 : Shape := ⟨5, ![1, 8, 1, 16, 128]⟩
abbrev S1x1x16 : Shape := ⟨3, ![1, 1, 16]⟩
abbrev S1x1x16x8x128 : Shape := ⟨5, ![1, 1, 16, 8, 128]⟩
abbrev S4x384x8x128 : Shape := ⟨4, ![4, 384, 8, 128]⟩
abbrev S1x8x1x128x128 : Shape := ⟨5, ![1, 8, 1, 128, 128]⟩
abbrev S1x128x8x128 : Shape := ⟨4, ![1, 128, 8, 128]⟩
abbrev S8x128x128 : Shape := ⟨3, ![8, 128, 128]⟩
abbrev S128x8x128 : Shape := ⟨3, ![128, 8, 128]⟩
abbrev S4x8x384x128x5 : Shape := ⟨5, ![4, 8, 384, 128, 5]⟩
abbrev S32x49152x5 : Shape := ⟨3, ![32, 49152, 5]⟩
abbrev S4x8x384x128 : Shape := ⟨4, ![4, 8, 384, 128]⟩
abbrev S32x49152 : Shape := ⟨2, ![32, 49152]⟩

abbrev nBuf : Table → Nat
  | .hbm => 16
  | .local .tc .vmem => 8
  | .local .scVector .vmem => 6
  | _ => 0

abbrev bufTy : (tb : Table) → Fin (nBuf tb) → BufTy
  | .hbm, ⟨0, _⟩ => ⟨S32x3x128x128x5, .f32⟩
  | .hbm, ⟨1, _⟩ => ⟨S32x3x128x128x1, .f32⟩
  | .hbm, ⟨2, _⟩ => ⟨S32x3x128x128x1, .f32⟩
  | .hbm, ⟨3, _⟩ => ⟨S32x3x5x128x128, .f32⟩
  | .hbm, ⟨4, _⟩ => ⟨S4x8x15x128x128, .f32⟩
  | .hbm, ⟨5, _⟩ => ⟨S4x8x3x128x128, .f32⟩
  | .hbm, ⟨6, _⟩ => ⟨S4x8x3x128x128, .f32⟩
  | .hbm, ⟨7, _⟩ => ⟨S5x4x384x8x128, .f32⟩
  | .hbm, ⟨8, _⟩ => ⟨S4x384x8x128, .f32⟩
  | .hbm, ⟨9, _⟩ => ⟨S4x384x8x128, .i32⟩
  | .hbm, ⟨10, _⟩ => ⟨S4x8x384x128x5, .f32⟩
  | .hbm, ⟨11, _⟩ => ⟨S32x49152x5, .f32⟩
  | .hbm, ⟨12, _⟩ => ⟨S4x8x384x128, .f32⟩
  | .hbm, ⟨13, _⟩ => ⟨S32x49152, .f32⟩
  | .hbm, ⟨14, _⟩ => ⟨S4x8x384x128, .i32⟩
  | .hbm, ⟨15, _⟩ => ⟨S32x49152, .i32⟩
  | .local .tc .vmem, ⟨0, _⟩ => ⟨S1x8x1x128x128, .f32⟩
  | .local .tc .vmem, ⟨1, _⟩ => ⟨S1x8x1x128x128, .f32⟩
  | .local .tc .vmem, ⟨2, _⟩ => ⟨S1x8x1x128x128, .f32⟩
  | .local .tc .vmem, ⟨3, _⟩ => ⟨S1x8x1x128x128, .f32⟩
  | .local .tc .vmem, ⟨4, _⟩ => ⟨S1x128x8x128, .f32⟩
  | .local .tc .vmem, ⟨5, _⟩ => ⟨S1x128x8x128, .f32⟩
  | .local .tc .vmem, ⟨6, _⟩ => ⟨S1x128x8x128, .i32⟩
  | .local .tc .vmem, ⟨7, _⟩ => ⟨S1x128x8x128, .i32⟩
  | .local .scVector .vmem, ⟨0, _⟩ => ⟨S8x16x128, .f32⟩
  | .local .scVector .vmem, ⟨1, _⟩ => ⟨S8x16x128, .f32⟩
  | .local .scVector .vmem, ⟨2, _⟩ => ⟨S8x16x128, .f32⟩
  | .local .scVector .vmem, ⟨3, _⟩ => ⟨S16x8x128, .f32⟩
  | .local .scVector .vmem, ⟨4, _⟩ => ⟨S16x8x128, .f32⟩
  | .local .scVector .vmem, ⟨5, _⟩ => ⟨S16x8x128, .f32⟩
  | _, _ => ⟨S32x3x128x128x5, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v1_scv : Ref sig .scVector := ⟨.hbm, 4, rfl⟩
abbrev main_v4_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_23 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v4 : BitVec 32 := Scalar.muli v1 c3_i32
  let v5 : BitVec 32 := Scalar.addi v4 c0_i32
  let c0_i32_0 : BitVec 32 := 0#32
  let v7 : BitVec 1 := Scalar.cmpi .sgt v5 c0_i32_0
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c24_i32 : BitVec 32 := 24#32
  let c0_i32_2 : BitVec 32 := 0#32
  let v12 : BitVec 1 := Scalar.cmpi .sgt c24_i32 c0_i32_2
  let v13 : BitVec 32 := Scalar.extui v12
  let c0_i32_3 : BitVec 32 := 0#32
  let v14 : BitVec 1 := Scalar.cmpi .slt c24_i32 c0_i32_3
  let v15 : BitVec 32 := Scalar.extui v14
  let v16 : BitVec 32 := Scalar.subi v13 v15
  let v17 : BitVec 1 := Scalar.cmpi .ne v11 v16
  let v18 : BitVec 32 := Scalar.remsi v5 c24_i32
  let c0_i32_4 : BitVec 32 := 0#32
  let v19 : BitVec 1 := Scalar.cmpi .ne v18 c0_i32_4
  let v20 : BitVec 1 := Scalar.andi v17 v19
  let v6 : BitVec 32 := Scalar.divsi v5 c24_i32
  let c1_i32 : BitVec 32 := 1#32
  let v21 : BitVec 32 := Scalar.subi v6 c1_i32
  let v22 : BitVec 32 := Scalar.select v20 v21 v6
  let c0_i32_24 : BitVec 32 := 0#32
  let c24_i32_5 : BitVec 32 := 24#32
  let c0_i32_6 : BitVec 32 := 0#32
  let v23 : BitVec 1 := Scalar.cmpi .eq c24_i32_5 c0_i32_6
  let c1_i32_7 : BitVec 32 := 1#32
  let v24 : BitVec 32 := Scalar.select v23 c1_i32_7 c24_i32_5
  let v25 : BitVec 32 := Scalar.remsi v5 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c8_i32 : BitVec 32 := 8#32
  let c0_i32_13 : BitVec 32 := 0#32
  let v39 : BitVec 1 := Scalar.cmpi .sgt c8_i32 c0_i32_13
  let v40 : BitVec 32 := Scalar.extui v39
  let c0_i32_14 : BitVec 32 := 0#32
  let v41 : BitVec 1 := Scalar.cmpi .slt c8_i32 c0_i32_14
  let v42 : BitVec 32 := Scalar.extui v41
  let v43 : BitVec 32 := Scalar.subi v40 v42
  let v44 : BitVec 1 := Scalar.cmpi .ne v38 v43
  let v45 : BitVec 32 := Scalar.remsi v32 c8_i32
  let c0_i32_15 : BitVec 32 := 0#32
  let v46 : BitVec 1 := Scalar.cmpi .ne v45 c0_i32_15
  let v47 : BitVec 1 := Scalar.andi v44 v46
  let v33 : BitVec 32 := Scalar.divsi v32 c8_i32
  let c1_i32_16 : BitVec 32 := 1#32
  let v48 : BitVec 32 := Scalar.subi v33 c1_i32_16
  let v49 : BitVec 32 := Scalar.select v47 v48 v33
  let c5_i32 : BitVec 32 := 5#32
  let v60 : BitVec 32 := Scalar.muli v49 c5_i32
  let v61 : BitVec 32 := Scalar.addi v60 c0_i32_23
  let c8_i32_17 : BitVec 32 := 8#32
  let c0_i32_18 : BitVec 32 := 0#32
  let v50 : BitVec 1 := Scalar.cmpi .eq c8_i32_17 c0_i32_18
  let c1_i32_19 : BitVec 32 := 1#32
  let v51 : BitVec 32 := Scalar.select v50 c1_i32_19 c8_i32_17
  let v52 : BitVec 32 := Scalar.remsi v32 v51
  let c0_i32_21 : BitVec 32 := 0#32
  let v54 : BitVec 1 := Scalar.cmpi .slt v52 c0_i32_21
  let c0_i32_22 : BitVec 32 := 0#32
  let v55 : BitVec 1 := Scalar.cmpi .slt v51 c0_i32_22
  let v56 : BitVec 1 := Scalar.xori v54 v55
  let c0_i32_20 : BitVec 32 := 0#32
  let v53 : BitVec 1 := Scalar.cmpi .ne v52 c0_i32_20
  let v57 : BitVec 1 := Scalar.andi v56 v53
  let v58 : BitVec 32 := Scalar.addi v52 v51
  let v59 : BitVec 32 := Scalar.select v57 v58 v52
  let c16_i32 : BitVec 32 := 16#32
  let v62 : BitVec 32 := Scalar.muli v59 c16_i32
  let c0_i32_25 : BitVec 32 := 0#32
  ![v22.toNat, 0, v61.toNat, v62.toNat, 0]
@[reducible] def k0_t1_loop : Scf.Loop 32 :=
  let c0_i32_142 : BitVec 32 := 0#32
  let c128_i32 : BitVec 32 := 128#32
  let v265 : BitVec 32 := Scalar.addi c0_i32_142 c128_i32
  let c1_i32_143 : BitVec 32 := 1#32
  ⟨c0_i32_142, v265, c1_i32_143⟩
def k0_off2 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off3 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2256 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2257 : Index := Scalar.indexCast v2227
  let c0_1450 : Index := 0#32
  ![v2256.toNat, v2257.toNat, 0]
def k0_off4 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2261 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2262 : Index := Scalar.indexCast v2237
  let c16 : Index := 16#32
  ![v2261.toNat, v2262.toNat, 16]
def k0_off5 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2278 : Index := Scalar.indexCast v2227
  let c16_1456 : Index := 16#32
  ![v2277.toNat, v2278.toNat, 16]
def k0_off6 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2282 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c32 : Index := 32#32
  ![v2282.toNat, v2283.toNat, 32]
def k0_off7 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2298 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2299 : Index := Scalar.indexCast v2227
  let c32_1462 : Index := 32#32
  ![v2298.toNat, v2299.toNat, 32]
def k0_off8 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2303 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2304 : Index := Scalar.indexCast v2237
  let c48 : Index := 48#32
  ![v2303.toNat, v2304.toNat, 48]
def k0_off9 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c48_1468 : Index := 48#32
  ![v2319.toNat, v2320.toNat, 48]
def k0_off10 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c64 : Index := 64#32
  ![v2324.toNat, v2325.toNat, 64]
def k0_off11 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2340 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2341 : Index := Scalar.indexCast v2227
  let c64_1474 : Index := 64#32
  ![v2340.toNat, v2341.toNat, 64]
def k0_off12 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2345 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2346 : Index := Scalar.indexCast v2237
  let c80 : Index := 80#32
  ![v2345.toNat, v2346.toNat, 80]
def k0_off13 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2362 : Index := Scalar.indexCast v2227
  let c80_1480 : Index := 80#32
  ![v2361.toNat, v2362.toNat, 80]
def k0_off14 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2366 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2367 : Index := Scalar.indexCast v2237
  let c96 : Index := 96#32
  ![v2366.toNat, v2367.toNat, 96]
def k0_off15 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2382 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2383 : Index := Scalar.indexCast v2227
  let c96_1486 : Index := 96#32
  ![v2382.toNat, v2383.toNat, 96]
def k0_off16 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2387 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2388 : Index := Scalar.indexCast v2237
  let c112 : Index := 112#32
  ![v2387.toNat, v2388.toNat, 112]
def k0_off17 (k0_t1 : Fin k0_t1_loop.trips) : Fin 3 → Nat :=
  let c0_i32_1431 : BitVec 32 := 0#32
  let c0_i32_142 : BitVec 32 := 0#32
  let c1_i32_143 : BitVec 32 := 1#32
  let arg16 : BitVec 32 := Scf.iv c0_i32_142 c1_i32_143 k0_t1
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2403 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2404 : Index := Scalar.indexCast v2227
  let c112_1492 : Index := 112#32
  ![v2403.toNat, v2404.toNat, 112]
def k0_off18 (i : grid0.Coords) (c0_i32_103 : BitVec 32) : Fin 5 → Nat :=
  let c0_i32_147 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_102 : BitVec 32 := 3#32
  let v197 : BitVec 32 := Scalar.muli v1 c3_i32_102
  let v198 : BitVec 32 := Scalar.addi v197 c0_i32_103
  let c0_i32_105 : BitVec 32 := 0#32
  let v200 : BitVec 1 := Scalar.cmpi .sgt v198 c0_i32_105
  let v201 : BitVec 32 := Scalar.extui v200
  let c0_i32_106 : BitVec 32 := 0#32
  let v202 : BitVec 1 := Scalar.cmpi .slt v198 c0_i32_106
  let v203 : BitVec 32 := Scalar.extui v202
  let v204 : BitVec 32 := Scalar.subi v201 v203
  let c24_i32_104 : BitVec 32 := 24#32
  let c0_i32_107 : BitVec 32 := 0#32
  let v205 : BitVec 1 := Scalar.cmpi .sgt c24_i32_104 c0_i32_107
  let v206 : BitVec 32 := Scalar.extui v205
  let c0_i32_108 : BitVec 32 := 0#32
  let v207 : BitVec 1 := Scalar.cmpi .slt c24_i32_104 c0_i32_108
  let v208 : BitVec 32 := Scalar.extui v207
  let v209 : BitVec 32 := Scalar.subi v206 v208
  let v210 : BitVec 1 := Scalar.cmpi .ne v204 v209
  let v211 : BitVec 32 := Scalar.remsi v198 c24_i32_104
  let c0_i32_109 : BitVec 32 := 0#32
  let v212 : BitVec 1 := Scalar.cmpi .ne v211 c0_i32_109
  let v213 : BitVec 1 := Scalar.andi v210 v212
  let v199 : BitVec 32 := Scalar.divsi v198 c24_i32_104
  let c1_i32_110 : BitVec 32 := 1#32
  let v214 : BitVec 32 := Scalar.subi v199 c1_i32_110
  let v215 : BitVec 32 := Scalar.select v213 v214 v199
  let c24_i32_111 : BitVec 32 := 24#32
  let c0_i32_112 : BitVec 32 := 0#32
  let v216 : BitVec 1 := Scalar.cmpi .eq c24_i32_111 c0_i32_112
  let c1_i32_113 : BitVec 32 := 1#32
  let v217 : BitVec 32 := Scalar.select v216 c1_i32_113 c24_i32_111
  let v218 : BitVec 32 := Scalar.remsi v198 v217
  let c0_i32_115 : BitVec 32 := 0#32
  let v220 : BitVec 1 := Scalar.cmpi .slt v218 c0_i32_115
  let c0_i32_116 : BitVec 32 := 0#32
  let v221 : BitVec 1 := Scalar.cmpi .slt v217 c0_i32_116
  let v222 : BitVec 1 := Scalar.xori v220 v221
  let c0_i32_114 : BitVec 32 := 0#32
  let v219 : BitVec 1 := Scalar.cmpi .ne v218 c0_i32_114
  let v223 : BitVec 1 := Scalar.andi v222 v219
  let v224 : BitVec 32 := Scalar.addi v218 v217
  let v225 : BitVec 32 := Scalar.select v223 v224 v218
  let c0_i32_118 : BitVec 32 := 0#32
  let v227 : BitVec 1 := Scalar.cmpi .sgt v225 c0_i32_118
  let v228 : BitVec 32 := Scalar.extui v227
  let c0_i32_119 : BitVec 32 := 0#32
  let v229 : BitVec 1 := Scalar.cmpi .slt v225 c0_i32_119
  let v230 : BitVec 32 := Scalar.extui v229
  let v231 : BitVec 32 := Scalar.subi v228 v230
  let c8_i32_117 : BitVec 32 := 8#32
  let c0_i32_120 : BitVec 32 := 0#32
  let v232 : BitVec 1 := Scalar.cmpi .sgt c8_i32_117 c0_i32_120
  let v233 : BitVec 32 := Scalar.extui v232
  let c0_i32_121 : BitVec 32 := 0#32
  let v234 : BitVec 1 := Scalar.cmpi .slt c8_i32_117 c0_i32_121
  let v235 : BitVec 32 := Scalar.extui v234
  let v236 : BitVec 32 := Scalar.subi v233 v235
  let v237 : BitVec 1 := Scalar.cmpi .ne v231 v236
  let v238 : BitVec 32 := Scalar.remsi v225 c8_i32_117
  let c0_i32_122 : BitVec 32 := 0#32
  let v239 : BitVec 1 := Scalar.cmpi .ne v238 c0_i32_122
  let v240 : BitVec 1 := Scalar.andi v237 v239
  let v226 : BitVec 32 := Scalar.divsi v225 c8_i32_117
  let c1_i32_123 : BitVec 32 := 1#32
  let v241 : BitVec 32 := Scalar.subi v226 c1_i32_123
  let v242 : BitVec 32 := Scalar.select v240 v241 v226
  let c128_i32_145 : BitVec 32 := 128#32
  let v266 : BitVec 32 := Scalar.muli v242 c128_i32_145
  let c8_i32_124 : BitVec 32 := 8#32
  let c0_i32_125 : BitVec 32 := 0#32
  let v243 : BitVec 1 := Scalar.cmpi .eq c8_i32_124 c0_i32_125
  let c1_i32_126 : BitVec 32 := 1#32
  let v244 : BitVec 32 := Scalar.select v243 c1_i32_126 c8_i32_124
  let v245 : BitVec 32 := Scalar.remsi v225 v244
  let c0_i32_128 : BitVec 32 := 0#32
  let v247 : BitVec 1 := Scalar.cmpi .slt v245 c0_i32_128
  let c0_i32_129 : BitVec 32 := 0#32
  let v248 : BitVec 1 := Scalar.cmpi .slt v244 c0_i32_129
  let v249 : BitVec 1 := Scalar.xori v247 v248
  let c0_i32_127 : BitVec 32 := 0#32
  let v246 : BitVec 1 := Scalar.cmpi .ne v245 c0_i32_127
  let v250 : BitVec 1 := Scalar.andi v249 v246
  let v251 : BitVec 32 := Scalar.addi v245 v244
  let v252 : BitVec 32 := Scalar.select v250 v251 v245
  let c16_i32_146 : BitVec 32 := 16#32
  let v267 : BitVec 32 := Scalar.muli v252 c16_i32_146
  let v268 : BitVec 32 := Scalar.addi v266 v267
  let c0_i32_148 : BitVec 32 := 0#32
  let c0_i32_149 : BitVec 32 := 0#32
  ![0, v215.toNat, v268.toNat, 0, 0]
@[reducible] def k0_t2_loop : Scf.Loop 32 :=
  let c0_i32_232 : BitVec 32 := 0#32
  let c128_i32_233 : BitVec 32 := 128#32
  let v408 : BitVec 32 := Scalar.addi c0_i32_232 c128_i32_233
  let c1_i32_234 : BitVec 32 := 1#32
  ⟨c0_i32_232, v408, c1_i32_234⟩
def k0_off19 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off20 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2255 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2256 : Index := Scalar.indexCast v2227
  let c0_1449 : Index := 0#32
  ![v2255.toNat, v2256.toNat, 0]
def k0_off21 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2261 : Index := Scalar.indexCast v2237
  let c16 : Index := 16#32
  ![v2260.toNat, v2261.toNat, 16]
def k0_off22 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2275 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_1454 : Index := 16#32
  ![v2275.toNat, v2276.toNat, 16]
def k0_off23 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2280 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2281 : Index := Scalar.indexCast v2237
  let c32 : Index := 32#32
  ![v2280.toNat, v2281.toNat, 32]
def k0_off24 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c32_1459 : Index := 32#32
  ![v2295.toNat, v2296.toNat, 32]
def k0_off25 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c48 : Index := 48#32
  ![v2300.toNat, v2301.toNat, 48]
def k0_off26 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2315 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2316 : Index := Scalar.indexCast v2227
  let c48_1464 : Index := 48#32
  ![v2315.toNat, v2316.toNat, 48]
def k0_off27 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2321 : Index := Scalar.indexCast v2237
  let c64 : Index := 64#32
  ![v2320.toNat, v2321.toNat, 64]
def k0_off28 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2335 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2336 : Index := Scalar.indexCast v2227
  let c64_1469 : Index := 64#32
  ![v2335.toNat, v2336.toNat, 64]
def k0_off29 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2340 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2341 : Index := Scalar.indexCast v2237
  let c80 : Index := 80#32
  ![v2340.toNat, v2341.toNat, 80]
def k0_off30 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2355 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2356 : Index := Scalar.indexCast v2227
  let c80_1474 : Index := 80#32
  ![v2355.toNat, v2356.toNat, 80]
def k0_off31 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2360 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c96 : Index := 96#32
  ![v2360.toNat, v2361.toNat, 96]
def k0_off32 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2375 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2376 : Index := Scalar.indexCast v2227
  let c96_1479 : Index := 96#32
  ![v2375.toNat, v2376.toNat, 96]
def k0_off33 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2380 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2381 : Index := Scalar.indexCast v2237
  let c112 : Index := 112#32
  ![v2380.toNat, v2381.toNat, 112]
def k0_off34 (k0_t2 : Fin k0_t2_loop.trips) : Fin 3 → Nat :=
  let c0_i32_1431 : BitVec 32 := 0#32
  let c0_i32_232 : BitVec 32 := 0#32
  let c1_i32_234 : BitVec 32 := 1#32
  let arg16 : BitVec 32 := Scf.iv c0_i32_232 c1_i32_234 k0_t2
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2395 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2396 : Index := Scalar.indexCast v2227
  let c112_1484 : Index := 112#32
  ![v2395.toNat, v2396.toNat, 112]
def k0_off35 (i : grid0.Coords) (c0_i32_192 : BitVec 32) : Fin 5 → Nat :=
  let c1_i32_238 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_191 : BitVec 32 := 3#32
  let v340 : BitVec 32 := Scalar.muli v1 c3_i32_191
  let v341 : BitVec 32 := Scalar.addi v340 c0_i32_192
  let c0_i32_194 : BitVec 32 := 0#32
  let v343 : BitVec 1 := Scalar.cmpi .sgt v341 c0_i32_194
  let v344 : BitVec 32 := Scalar.extui v343
  let c0_i32_195 : BitVec 32 := 0#32
  let v345 : BitVec 1 := Scalar.cmpi .slt v341 c0_i32_195
  let v346 : BitVec 32 := Scalar.extui v345
  let v347 : BitVec 32 := Scalar.subi v344 v346
  let c24_i32_193 : BitVec 32 := 24#32
  let c0_i32_196 : BitVec 32 := 0#32
  let v348 : BitVec 1 := Scalar.cmpi .sgt c24_i32_193 c0_i32_196
  let v349 : BitVec 32 := Scalar.extui v348
  let c0_i32_197 : BitVec 32 := 0#32
  let v350 : BitVec 1 := Scalar.cmpi .slt c24_i32_193 c0_i32_197
  let v351 : BitVec 32 := Scalar.extui v350
  let v352 : BitVec 32 := Scalar.subi v349 v351
  let v353 : BitVec 1 := Scalar.cmpi .ne v347 v352
  let v354 : BitVec 32 := Scalar.remsi v341 c24_i32_193
  let c0_i32_198 : BitVec 32 := 0#32
  let v355 : BitVec 1 := Scalar.cmpi .ne v354 c0_i32_198
  let v356 : BitVec 1 := Scalar.andi v353 v355
  let v342 : BitVec 32 := Scalar.divsi v341 c24_i32_193
  let c1_i32_199 : BitVec 32 := 1#32
  let v357 : BitVec 32 := Scalar.subi v342 c1_i32_199
  let v358 : BitVec 32 := Scalar.select v356 v357 v342
  let c24_i32_200 : BitVec 32 := 24#32
  let c0_i32_201 : BitVec 32 := 0#32
  let v359 : BitVec 1 := Scalar.cmpi .eq c24_i32_200 c0_i32_201
  let c1_i32_202 : BitVec 32 := 1#32
  let v360 : BitVec 32 := Scalar.select v359 c1_i32_202 c24_i32_200
  let v361 : BitVec 32 := Scalar.remsi v341 v360
  let c0_i32_204 : BitVec 32 := 0#32
  let v363 : BitVec 1 := Scalar.cmpi .slt v361 c0_i32_204
  let c0_i32_205 : BitVec 32 := 0#32
  let v364 : BitVec 1 := Scalar.cmpi .slt v360 c0_i32_205
  let v365 : BitVec 1 := Scalar.xori v363 v364
  let c0_i32_203 : BitVec 32 := 0#32
  let v362 : BitVec 1 := Scalar.cmpi .ne v361 c0_i32_203
  let v366 : BitVec 1 := Scalar.andi v365 v362
  let v367 : BitVec 32 := Scalar.addi v361 v360
  let v368 : BitVec 32 := Scalar.select v366 v367 v361
  let c0_i32_207 : BitVec 32 := 0#32
  let v370 : BitVec 1 := Scalar.cmpi .sgt v368 c0_i32_207
  let v371 : BitVec 32 := Scalar.extui v370
  let c0_i32_208 : BitVec 32 := 0#32
  let v372 : BitVec 1 := Scalar.cmpi .slt v368 c0_i32_208
  let v373 : BitVec 32 := Scalar.extui v372
  let v374 : BitVec 32 := Scalar.subi v371 v373
  let c8_i32_206 : BitVec 32 := 8#32
  let c0_i32_209 : BitVec 32 := 0#32
  let v375 : BitVec 1 := Scalar.cmpi .sgt c8_i32_206 c0_i32_209
  let v376 : BitVec 32 := Scalar.extui v375
  let c0_i32_210 : BitVec 32 := 0#32
  let v377 : BitVec 1 := Scalar.cmpi .slt c8_i32_206 c0_i32_210
  let v378 : BitVec 32 := Scalar.extui v377
  let v379 : BitVec 32 := Scalar.subi v376 v378
  let v380 : BitVec 1 := Scalar.cmpi .ne v374 v379
  let v381 : BitVec 32 := Scalar.remsi v368 c8_i32_206
  let c0_i32_211 : BitVec 32 := 0#32
  let v382 : BitVec 1 := Scalar.cmpi .ne v381 c0_i32_211
  let v383 : BitVec 1 := Scalar.andi v380 v382
  let v369 : BitVec 32 := Scalar.divsi v368 c8_i32_206
  let c1_i32_212 : BitVec 32 := 1#32
  let v384 : BitVec 32 := Scalar.subi v369 c1_i32_212
  let v385 : BitVec 32 := Scalar.select v383 v384 v369
  let c128_i32_236 : BitVec 32 := 128#32
  let v409 : BitVec 32 := Scalar.muli v385 c128_i32_236
  let c8_i32_213 : BitVec 32 := 8#32
  let c0_i32_214 : BitVec 32 := 0#32
  let v386 : BitVec 1 := Scalar.cmpi .eq c8_i32_213 c0_i32_214
  let c1_i32_215 : BitVec 32 := 1#32
  let v387 : BitVec 32 := Scalar.select v386 c1_i32_215 c8_i32_213
  let v388 : BitVec 32 := Scalar.remsi v368 v387
  let c0_i32_217 : BitVec 32 := 0#32
  let v390 : BitVec 1 := Scalar.cmpi .slt v388 c0_i32_217
  let c0_i32_218 : BitVec 32 := 0#32
  let v391 : BitVec 1 := Scalar.cmpi .slt v387 c0_i32_218
  let v392 : BitVec 1 := Scalar.xori v390 v391
  let c0_i32_216 : BitVec 32 := 0#32
  let v389 : BitVec 1 := Scalar.cmpi .ne v388 c0_i32_216
  let v393 : BitVec 1 := Scalar.andi v392 v389
  let v394 : BitVec 32 := Scalar.addi v388 v387
  let v395 : BitVec 32 := Scalar.select v393 v394 v388
  let c16_i32_237 : BitVec 32 := 16#32
  let v410 : BitVec 32 := Scalar.muli v395 c16_i32_237
  let v411 : BitVec 32 := Scalar.addi v409 v410
  let c0_i32_239 : BitVec 32 := 0#32
  let c0_i32_240 : BitVec 32 := 0#32
  ![1, v358.toNat, v411.toNat, 0, 0]
@[reducible] def k0_t3_loop : Scf.Loop 32 :=
  let c0_i32_322 : BitVec 32 := 0#32
  let c128_i32_323 : BitVec 32 := 128#32
  let v551 : BitVec 32 := Scalar.addi c0_i32_322 c128_i32_323
  let c1_i32_324 : BitVec 32 := 1#32
  ⟨c0_i32_322, v551, c1_i32_324⟩
def k0_off36 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off37 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2247 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2248 : Index := Scalar.indexCast v2227
  let c0_1445 : Index := 0#32
  ![v2247.toNat, v2248.toNat, 0]
def k0_off38 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2252 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2253 : Index := Scalar.indexCast v2237
  let c16 : Index := 16#32
  ![v2252.toNat, v2253.toNat, 16]
def k0_off39 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2259 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_1446 : Index := 16#32
  ![v2259.toNat, v2260.toNat, 16]
def k0_off40 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2264 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2265 : Index := Scalar.indexCast v2237
  let c32 : Index := 32#32
  ![v2264.toNat, v2265.toNat, 32]
def k0_off41 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2271 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2272 : Index := Scalar.indexCast v2227
  let c32_1447 : Index := 32#32
  ![v2271.toNat, v2272.toNat, 32]
def k0_off42 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c48 : Index := 48#32
  ![v2276.toNat, v2277.toNat, 48]
def k0_off43 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2284 : Index := Scalar.indexCast v2227
  let c48_1448 : Index := 48#32
  ![v2283.toNat, v2284.toNat, 48]
def k0_off44 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2288 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2289 : Index := Scalar.indexCast v2237
  let c64 : Index := 64#32
  ![v2288.toNat, v2289.toNat, 64]
def k0_off45 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c64_1449 : Index := 64#32
  ![v2295.toNat, v2296.toNat, 64]
def k0_off46 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c80 : Index := 80#32
  ![v2300.toNat, v2301.toNat, 80]
def k0_off47 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2307 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2308 : Index := Scalar.indexCast v2227
  let c80_1450 : Index := 80#32
  ![v2307.toNat, v2308.toNat, 80]
def k0_off48 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2312 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2313 : Index := Scalar.indexCast v2237
  let c96 : Index := 96#32
  ![v2312.toNat, v2313.toNat, 96]
def k0_off49 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c96_1451 : Index := 96#32
  ![v2319.toNat, v2320.toNat, 96]
def k0_off50 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c112 : Index := 112#32
  ![v2324.toNat, v2325.toNat, 112]
def k0_off51 (k0_t3 : Fin k0_t3_loop.trips) : Fin 3 → Nat :=
  let c0_i32_1431 : BitVec 32 := 0#32
  let c0_i32_322 : BitVec 32 := 0#32
  let c1_i32_324 : BitVec 32 := 1#32
  let arg16 : BitVec 32 := Scf.iv c0_i32_322 c1_i32_324 k0_t3
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2331 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2332 : Index := Scalar.indexCast v2227
  let c112_1452 : Index := 112#32
  ![v2331.toNat, v2332.toNat, 112]
def k0_off52 (i : grid0.Coords) (c0_i32_282 : BitVec 32) : Fin 5 → Nat :=
  let c2_i32_328 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_281 : BitVec 32 := 3#32
  let v483 : BitVec 32 := Scalar.muli v1 c3_i32_281
  let v484 : BitVec 32 := Scalar.addi v483 c0_i32_282
  let c0_i32_284 : BitVec 32 := 0#32
  let v486 : BitVec 1 := Scalar.cmpi .sgt v484 c0_i32_284
  let v487 : BitVec 32 := Scalar.extui v486
  let c0_i32_285 : BitVec 32 := 0#32
  let v488 : BitVec 1 := Scalar.cmpi .slt v484 c0_i32_285
  let v489 : BitVec 32 := Scalar.extui v488
  let v490 : BitVec 32 := Scalar.subi v487 v489
  let c24_i32_283 : BitVec 32 := 24#32
  let c0_i32_286 : BitVec 32 := 0#32
  let v491 : BitVec 1 := Scalar.cmpi .sgt c24_i32_283 c0_i32_286
  let v492 : BitVec 32 := Scalar.extui v491
  let c0_i32_287 : BitVec 32 := 0#32
  let v493 : BitVec 1 := Scalar.cmpi .slt c24_i32_283 c0_i32_287
  let v494 : BitVec 32 := Scalar.extui v493
  let v495 : BitVec 32 := Scalar.subi v492 v494
  let v496 : BitVec 1 := Scalar.cmpi .ne v490 v495
  let v497 : BitVec 32 := Scalar.remsi v484 c24_i32_283
  let c0_i32_288 : BitVec 32 := 0#32
  let v498 : BitVec 1 := Scalar.cmpi .ne v497 c0_i32_288
  let v499 : BitVec 1 := Scalar.andi v496 v498
  let v485 : BitVec 32 := Scalar.divsi v484 c24_i32_283
  let c1_i32_289 : BitVec 32 := 1#32
  let v500 : BitVec 32 := Scalar.subi v485 c1_i32_289
  let v501 : BitVec 32 := Scalar.select v499 v500 v485
  let c24_i32_290 : BitVec 32 := 24#32
  let c0_i32_291 : BitVec 32 := 0#32
  let v502 : BitVec 1 := Scalar.cmpi .eq c24_i32_290 c0_i32_291
  let c1_i32_292 : BitVec 32 := 1#32
  let v503 : BitVec 32 := Scalar.select v502 c1_i32_292 c24_i32_290
  let v504 : BitVec 32 := Scalar.remsi v484 v503
  let c0_i32_294 : BitVec 32 := 0#32
  let v506 : BitVec 1 := Scalar.cmpi .slt v504 c0_i32_294
  let c0_i32_295 : BitVec 32 := 0#32
  let v507 : BitVec 1 := Scalar.cmpi .slt v503 c0_i32_295
  let v508 : BitVec 1 := Scalar.xori v506 v507
  let c0_i32_293 : BitVec 32 := 0#32
  let v505 : BitVec 1 := Scalar.cmpi .ne v504 c0_i32_293
  let v509 : BitVec 1 := Scalar.andi v508 v505
  let v510 : BitVec 32 := Scalar.addi v504 v503
  let v511 : BitVec 32 := Scalar.select v509 v510 v504
  let c0_i32_297 : BitVec 32 := 0#32
  let v513 : BitVec 1 := Scalar.cmpi .sgt v511 c0_i32_297
  let v514 : BitVec 32 := Scalar.extui v513
  let c0_i32_298 : BitVec 32 := 0#32
  let v515 : BitVec 1 := Scalar.cmpi .slt v511 c0_i32_298
  let v516 : BitVec 32 := Scalar.extui v515
  let v517 : BitVec 32 := Scalar.subi v514 v516
  let c8_i32_296 : BitVec 32 := 8#32
  let c0_i32_299 : BitVec 32 := 0#32
  let v518 : BitVec 1 := Scalar.cmpi .sgt c8_i32_296 c0_i32_299
  let v519 : BitVec 32 := Scalar.extui v518
  let c0_i32_300 : BitVec 32 := 0#32
  let v520 : BitVec 1 := Scalar.cmpi .slt c8_i32_296 c0_i32_300
  let v521 : BitVec 32 := Scalar.extui v520
  let v522 : BitVec 32 := Scalar.subi v519 v521
  let v523 : BitVec 1 := Scalar.cmpi .ne v517 v522
  let v524 : BitVec 32 := Scalar.remsi v511 c8_i32_296
  let c0_i32_301 : BitVec 32 := 0#32
  let v525 : BitVec 1 := Scalar.cmpi .ne v524 c0_i32_301
  let v526 : BitVec 1 := Scalar.andi v523 v525
  let v512 : BitVec 32 := Scalar.divsi v511 c8_i32_296
  let c1_i32_302 : BitVec 32 := 1#32
  let v527 : BitVec 32 := Scalar.subi v512 c1_i32_302
  let v528 : BitVec 32 := Scalar.select v526 v527 v512
  let c128_i32_326 : BitVec 32 := 128#32
  let v552 : BitVec 32 := Scalar.muli v528 c128_i32_326
  let c8_i32_303 : BitVec 32 := 8#32
  let c0_i32_304 : BitVec 32 := 0#32
  let v529 : BitVec 1 := Scalar.cmpi .eq c8_i32_303 c0_i32_304
  let c1_i32_305 : BitVec 32 := 1#32
  let v530 : BitVec 32 := Scalar.select v529 c1_i32_305 c8_i32_303
  let v531 : BitVec 32 := Scalar.remsi v511 v530
  let c0_i32_307 : BitVec 32 := 0#32
  let v533 : BitVec 1 := Scalar.cmpi .slt v531 c0_i32_307
  let c0_i32_308 : BitVec 32 := 0#32
  let v534 : BitVec 1 := Scalar.cmpi .slt v530 c0_i32_308
  let v535 : BitVec 1 := Scalar.xori v533 v534
  let c0_i32_306 : BitVec 32 := 0#32
  let v532 : BitVec 1 := Scalar.cmpi .ne v531 c0_i32_306
  let v536 : BitVec 1 := Scalar.andi v535 v532
  let v537 : BitVec 32 := Scalar.addi v531 v530
  let v538 : BitVec 32 := Scalar.select v536 v537 v531
  let c16_i32_327 : BitVec 32 := 16#32
  let v553 : BitVec 32 := Scalar.muli v538 c16_i32_327
  let v554 : BitVec 32 := Scalar.addi v552 v553
  let c0_i32_329 : BitVec 32 := 0#32
  let c0_i32_330 : BitVec 32 := 0#32
  ![2, v501.toNat, v554.toNat, 0, 0]
@[reducible] def k0_t4_loop : Scf.Loop 32 :=
  let c0_i32_418 : BitVec 32 := 0#32
  let c128_i32_419 : BitVec 32 := 128#32
  let v698 : BitVec 32 := Scalar.addi c0_i32_418 c128_i32_419
  let c1_i32_420 : BitVec 32 := 1#32
  ⟨c0_i32_418, v698, c1_i32_420⟩
def k0_off53 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off54 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2247 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2248 : Index := Scalar.indexCast v2227
  let c0_1445 : Index := 0#32
  ![v2247.toNat, v2248.toNat, 0]
def k0_off55 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2252 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2253 : Index := Scalar.indexCast v2237
  let c16 : Index := 16#32
  ![v2252.toNat, v2253.toNat, 16]
def k0_off56 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2259 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_1446 : Index := 16#32
  ![v2259.toNat, v2260.toNat, 16]
def k0_off57 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2264 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2265 : Index := Scalar.indexCast v2237
  let c32 : Index := 32#32
  ![v2264.toNat, v2265.toNat, 32]
def k0_off58 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2271 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2272 : Index := Scalar.indexCast v2227
  let c32_1447 : Index := 32#32
  ![v2271.toNat, v2272.toNat, 32]
def k0_off59 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c48 : Index := 48#32
  ![v2276.toNat, v2277.toNat, 48]
def k0_off60 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2284 : Index := Scalar.indexCast v2227
  let c48_1448 : Index := 48#32
  ![v2283.toNat, v2284.toNat, 48]
def k0_off61 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2288 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2289 : Index := Scalar.indexCast v2237
  let c64 : Index := 64#32
  ![v2288.toNat, v2289.toNat, 64]
def k0_off62 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c64_1449 : Index := 64#32
  ![v2295.toNat, v2296.toNat, 64]
def k0_off63 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c80 : Index := 80#32
  ![v2300.toNat, v2301.toNat, 80]
def k0_off64 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2307 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2308 : Index := Scalar.indexCast v2227
  let c80_1450 : Index := 80#32
  ![v2307.toNat, v2308.toNat, 80]
def k0_off65 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2312 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2313 : Index := Scalar.indexCast v2237
  let c96 : Index := 96#32
  ![v2312.toNat, v2313.toNat, 96]
def k0_off66 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c96_1451 : Index := 96#32
  ![v2319.toNat, v2320.toNat, 96]
def k0_off67 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c112 : Index := 112#32
  ![v2324.toNat, v2325.toNat, 112]
def k0_off68 (k0_t4 : Fin k0_t4_loop.trips) : Fin 3 → Nat :=
  let c0_i32_1431 : BitVec 32 := 0#32
  let c0_i32_418 : BitVec 32 := 0#32
  let c1_i32_420 : BitVec 32 := 1#32
  let arg16 : BitVec 32 := Scf.iv c0_i32_418 c1_i32_420 k0_t4
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2331 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2332 : Index := Scalar.indexCast v2227
  let c112_1452 : Index := 112#32
  ![v2331.toNat, v2332.toNat, 112]
def k0_off69 (i : grid0.Coords) (c0_i32_378 : BitVec 32) : Fin 5 → Nat :=
  let c3_i32_424 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_377 : BitVec 32 := 3#32
  let v630 : BitVec 32 := Scalar.muli v1 c3_i32_377
  let v631 : BitVec 32 := Scalar.addi v630 c0_i32_378
  let c0_i32_380 : BitVec 32 := 0#32
  let v633 : BitVec 1 := Scalar.cmpi .sgt v631 c0_i32_380
  let v634 : BitVec 32 := Scalar.extui v633
  let c0_i32_381 : BitVec 32 := 0#32
  let v635 : BitVec 1 := Scalar.cmpi .slt v631 c0_i32_381
  let v636 : BitVec 32 := Scalar.extui v635
  let v637 : BitVec 32 := Scalar.subi v634 v636
  let c24_i32_379 : BitVec 32 := 24#32
  let c0_i32_382 : BitVec 32 := 0#32
  let v638 : BitVec 1 := Scalar.cmpi .sgt c24_i32_379 c0_i32_382
  let v639 : BitVec 32 := Scalar.extui v638
  let c0_i32_383 : BitVec 32 := 0#32
  let v640 : BitVec 1 := Scalar.cmpi .slt c24_i32_379 c0_i32_383
  let v641 : BitVec 32 := Scalar.extui v640
  let v642 : BitVec 32 := Scalar.subi v639 v641
  let v643 : BitVec 1 := Scalar.cmpi .ne v637 v642
  let v644 : BitVec 32 := Scalar.remsi v631 c24_i32_379
  let c0_i32_384 : BitVec 32 := 0#32
  let v645 : BitVec 1 := Scalar.cmpi .ne v644 c0_i32_384
  let v646 : BitVec 1 := Scalar.andi v643 v645
  let v632 : BitVec 32 := Scalar.divsi v631 c24_i32_379
  let c1_i32_385 : BitVec 32 := 1#32
  let v647 : BitVec 32 := Scalar.subi v632 c1_i32_385
  let v648 : BitVec 32 := Scalar.select v646 v647 v632
  let c24_i32_386 : BitVec 32 := 24#32
  let c0_i32_387 : BitVec 32 := 0#32
  let v649 : BitVec 1 := Scalar.cmpi .eq c24_i32_386 c0_i32_387
  let c1_i32_388 : BitVec 32 := 1#32
  let v650 : BitVec 32 := Scalar.select v649 c1_i32_388 c24_i32_386
  let v651 : BitVec 32 := Scalar.remsi v631 v650
  let c0_i32_390 : BitVec 32 := 0#32
  let v653 : BitVec 1 := Scalar.cmpi .slt v651 c0_i32_390
  let c0_i32_391 : BitVec 32 := 0#32
  let v654 : BitVec 1 := Scalar.cmpi .slt v650 c0_i32_391
  let v655 : BitVec 1 := Scalar.xori v653 v654
  let c0_i32_389 : BitVec 32 := 0#32
  let v652 : BitVec 1 := Scalar.cmpi .ne v651 c0_i32_389
  let v656 : BitVec 1 := Scalar.andi v655 v652
  let v657 : BitVec 32 := Scalar.addi v651 v650
  let v658 : BitVec 32 := Scalar.select v656 v657 v651
  let c0_i32_393 : BitVec 32 := 0#32
  let v660 : BitVec 1 := Scalar.cmpi .sgt v658 c0_i32_393
  let v661 : BitVec 32 := Scalar.extui v660
  let c0_i32_394 : BitVec 32 := 0#32
  let v662 : BitVec 1 := Scalar.cmpi .slt v658 c0_i32_394
  let v663 : BitVec 32 := Scalar.extui v662
  let v664 : BitVec 32 := Scalar.subi v661 v663
  let c8_i32_392 : BitVec 32 := 8#32
  let c0_i32_395 : BitVec 32 := 0#32
  let v665 : BitVec 1 := Scalar.cmpi .sgt c8_i32_392 c0_i32_395
  let v666 : BitVec 32 := Scalar.extui v665
  let c0_i32_396 : BitVec 32 := 0#32
  let v667 : BitVec 1 := Scalar.cmpi .slt c8_i32_392 c0_i32_396
  let v668 : BitVec 32 := Scalar.extui v667
  let v669 : BitVec 32 := Scalar.subi v666 v668
  let v670 : BitVec 1 := Scalar.cmpi .ne v664 v669
  let v671 : BitVec 32 := Scalar.remsi v658 c8_i32_392
  let c0_i32_397 : BitVec 32 := 0#32
  let v672 : BitVec 1 := Scalar.cmpi .ne v671 c0_i32_397
  let v673 : BitVec 1 := Scalar.andi v670 v672
  let v659 : BitVec 32 := Scalar.divsi v658 c8_i32_392
  let c1_i32_398 : BitVec 32 := 1#32
  let v674 : BitVec 32 := Scalar.subi v659 c1_i32_398
  let v675 : BitVec 32 := Scalar.select v673 v674 v659
  let c128_i32_422 : BitVec 32 := 128#32
  let v699 : BitVec 32 := Scalar.muli v675 c128_i32_422
  let c8_i32_399 : BitVec 32 := 8#32
  let c0_i32_400 : BitVec 32 := 0#32
  let v676 : BitVec 1 := Scalar.cmpi .eq c8_i32_399 c0_i32_400
  let c1_i32_401 : BitVec 32 := 1#32
  let v677 : BitVec 32 := Scalar.select v676 c1_i32_401 c8_i32_399
  let v678 : BitVec 32 := Scalar.remsi v658 v677
  let c0_i32_403 : BitVec 32 := 0#32
  let v680 : BitVec 1 := Scalar.cmpi .slt v678 c0_i32_403
  let c0_i32_404 : BitVec 32 := 0#32
  let v681 : BitVec 1 := Scalar.cmpi .slt v677 c0_i32_404
  let v682 : BitVec 1 := Scalar.xori v680 v681
  let c0_i32_402 : BitVec 32 := 0#32
  let v679 : BitVec 1 := Scalar.cmpi .ne v678 c0_i32_402
  let v683 : BitVec 1 := Scalar.andi v682 v679
  let v684 : BitVec 32 := Scalar.addi v678 v677
  let v685 : BitVec 32 := Scalar.select v683 v684 v678
  let c16_i32_423 : BitVec 32 := 16#32
  let v700 : BitVec 32 := Scalar.muli v685 c16_i32_423
  let v701 : BitVec 32 := Scalar.addi v699 v700
  let c0_i32_425 : BitVec 32 := 0#32
  let c0_i32_426 : BitVec 32 := 0#32
  ![3, v648.toNat, v701.toNat, 0, 0]
@[reducible] def k0_t5_loop : Scf.Loop 32 :=
  let c0_i32_514 : BitVec 32 := 0#32
  let c128_i32_515 : BitVec 32 := 128#32
  let v845 : BitVec 32 := Scalar.addi c0_i32_514 c128_i32_515
  let c1_i32_516 : BitVec 32 := 1#32
  ⟨c0_i32_514, v845, c1_i32_516⟩
def k0_off70 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off71 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2255 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2256 : Index := Scalar.indexCast v2227
  let c0_1450 : Index := 0#32
  ![v2255.toNat, v2256.toNat, 0]
def k0_off72 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2261 : Index := Scalar.indexCast v2237
  let c16 : Index := 16#32
  ![v2260.toNat, v2261.toNat, 16]
def k0_off73 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2275 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_1456 : Index := 16#32
  ![v2275.toNat, v2276.toNat, 16]
def k0_off74 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2280 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2281 : Index := Scalar.indexCast v2237
  let c32 : Index := 32#32
  ![v2280.toNat, v2281.toNat, 32]
def k0_off75 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c32_1462 : Index := 32#32
  ![v2295.toNat, v2296.toNat, 32]
def k0_off76 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c48 : Index := 48#32
  ![v2300.toNat, v2301.toNat, 48]
def k0_off77 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2315 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2316 : Index := Scalar.indexCast v2227
  let c48_1468 : Index := 48#32
  ![v2315.toNat, v2316.toNat, 48]
def k0_off78 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2321 : Index := Scalar.indexCast v2237
  let c64 : Index := 64#32
  ![v2320.toNat, v2321.toNat, 64]
def k0_off79 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2335 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2336 : Index := Scalar.indexCast v2227
  let c64_1474 : Index := 64#32
  ![v2335.toNat, v2336.toNat, 64]
def k0_off80 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2340 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2341 : Index := Scalar.indexCast v2237
  let c80 : Index := 80#32
  ![v2340.toNat, v2341.toNat, 80]
def k0_off81 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2355 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2356 : Index := Scalar.indexCast v2227
  let c80_1480 : Index := 80#32
  ![v2355.toNat, v2356.toNat, 80]
def k0_off82 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2360 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c96 : Index := 96#32
  ![v2360.toNat, v2361.toNat, 96]
def k0_off83 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2375 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2376 : Index := Scalar.indexCast v2227
  let c96_1486 : Index := 96#32
  ![v2375.toNat, v2376.toNat, 96]
def k0_off84 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2380 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2381 : Index := Scalar.indexCast v2237
  let c112 : Index := 112#32
  ![v2380.toNat, v2381.toNat, 112]
def k0_off85 (k0_t5 : Fin k0_t5_loop.trips) : Fin 3 → Nat :=
  let c0_i32_1431 : BitVec 32 := 0#32
  let c0_i32_514 : BitVec 32 := 0#32
  let c1_i32_516 : BitVec 32 := 1#32
  let arg16 : BitVec 32 := Scf.iv c0_i32_514 c1_i32_516 k0_t5
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2395 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2396 : Index := Scalar.indexCast v2227
  let c112_1492 : Index := 112#32
  ![v2395.toNat, v2396.toNat, 112]
def k0_off86 (i : grid0.Coords) (c0_i32_474 : BitVec 32) : Fin 5 → Nat :=
  let c4_i32_520 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_473 : BitVec 32 := 3#32
  let v777 : BitVec 32 := Scalar.muli v1 c3_i32_473
  let v778 : BitVec 32 := Scalar.addi v777 c0_i32_474
  let c0_i32_476 : BitVec 32 := 0#32
  let v780 : BitVec 1 := Scalar.cmpi .sgt v778 c0_i32_476
  let v781 : BitVec 32 := Scalar.extui v780
  let c0_i32_477 : BitVec 32 := 0#32
  let v782 : BitVec 1 := Scalar.cmpi .slt v778 c0_i32_477
  let v783 : BitVec 32 := Scalar.extui v782
  let v784 : BitVec 32 := Scalar.subi v781 v783
  let c24_i32_475 : BitVec 32 := 24#32
  let c0_i32_478 : BitVec 32 := 0#32
  let v785 : BitVec 1 := Scalar.cmpi .sgt c24_i32_475 c0_i32_478
  let v786 : BitVec 32 := Scalar.extui v785
  let c0_i32_479 : BitVec 32 := 0#32
  let v787 : BitVec 1 := Scalar.cmpi .slt c24_i32_475 c0_i32_479
  let v788 : BitVec 32 := Scalar.extui v787
  let v789 : BitVec 32 := Scalar.subi v786 v788
  let v790 : BitVec 1 := Scalar.cmpi .ne v784 v789
  let v791 : BitVec 32 := Scalar.remsi v778 c24_i32_475
  let c0_i32_480 : BitVec 32 := 0#32
  let v792 : BitVec 1 := Scalar.cmpi .ne v791 c0_i32_480
  let v793 : BitVec 1 := Scalar.andi v790 v792
  let v779 : BitVec 32 := Scalar.divsi v778 c24_i32_475
  let c1_i32_481 : BitVec 32 := 1#32
  let v794 : BitVec 32 := Scalar.subi v779 c1_i32_481
  let v795 : BitVec 32 := Scalar.select v793 v794 v779
  let c24_i32_482 : BitVec 32 := 24#32
  let c0_i32_483 : BitVec 32 := 0#32
  let v796 : BitVec 1 := Scalar.cmpi .eq c24_i32_482 c0_i32_483
  let c1_i32_484 : BitVec 32 := 1#32
  let v797 : BitVec 32 := Scalar.select v796 c1_i32_484 c24_i32_482
  let v798 : BitVec 32 := Scalar.remsi v778 v797
  let c0_i32_486 : BitVec 32 := 0#32
  let v800 : BitVec 1 := Scalar.cmpi .slt v798 c0_i32_486
  let c0_i32_487 : BitVec 32 := 0#32
  let v801 : BitVec 1 := Scalar.cmpi .slt v797 c0_i32_487
  let v802 : BitVec 1 := Scalar.xori v800 v801
  let c0_i32_485 : BitVec 32 := 0#32
  let v799 : BitVec 1 := Scalar.cmpi .ne v798 c0_i32_485
  let v803 : BitVec 1 := Scalar.andi v802 v799
  let v804 : BitVec 32 := Scalar.addi v798 v797
  let v805 : BitVec 32 := Scalar.select v803 v804 v798
  let c0_i32_489 : BitVec 32 := 0#32
  let v807 : BitVec 1 := Scalar.cmpi .sgt v805 c0_i32_489
  let v808 : BitVec 32 := Scalar.extui v807
  let c0_i32_490 : BitVec 32 := 0#32
  let v809 : BitVec 1 := Scalar.cmpi .slt v805 c0_i32_490
  let v810 : BitVec 32 := Scalar.extui v809
  let v811 : BitVec 32 := Scalar.subi v808 v810
  let c8_i32_488 : BitVec 32 := 8#32
  let c0_i32_491 : BitVec 32 := 0#32
  let v812 : BitVec 1 := Scalar.cmpi .sgt c8_i32_488 c0_i32_491
  let v813 : BitVec 32 := Scalar.extui v812
  let c0_i32_492 : BitVec 32 := 0#32
  let v814 : BitVec 1 := Scalar.cmpi .slt c8_i32_488 c0_i32_492
  let v815 : BitVec 32 := Scalar.extui v814
  let v816 : BitVec 32 := Scalar.subi v813 v815
  let v817 : BitVec 1 := Scalar.cmpi .ne v811 v816
  let v818 : BitVec 32 := Scalar.remsi v805 c8_i32_488
  let c0_i32_493 : BitVec 32 := 0#32
  let v819 : BitVec 1 := Scalar.cmpi .ne v818 c0_i32_493
  let v820 : BitVec 1 := Scalar.andi v817 v819
  let v806 : BitVec 32 := Scalar.divsi v805 c8_i32_488
  let c1_i32_494 : BitVec 32 := 1#32
  let v821 : BitVec 32 := Scalar.subi v806 c1_i32_494
  let v822 : BitVec 32 := Scalar.select v820 v821 v806
  let c128_i32_518 : BitVec 32 := 128#32
  let v846 : BitVec 32 := Scalar.muli v822 c128_i32_518
  let c8_i32_495 : BitVec 32 := 8#32
  let c0_i32_496 : BitVec 32 := 0#32
  let v823 : BitVec 1 := Scalar.cmpi .eq c8_i32_495 c0_i32_496
  let c1_i32_497 : BitVec 32 := 1#32
  let v824 : BitVec 32 := Scalar.select v823 c1_i32_497 c8_i32_495
  let v825 : BitVec 32 := Scalar.remsi v805 v824
  let c0_i32_499 : BitVec 32 := 0#32
  let v827 : BitVec 1 := Scalar.cmpi .slt v825 c0_i32_499
  let c0_i32_500 : BitVec 32 := 0#32
  let v828 : BitVec 1 := Scalar.cmpi .slt v824 c0_i32_500
  let v829 : BitVec 1 := Scalar.xori v827 v828
  let c0_i32_498 : BitVec 32 := 0#32
  let v826 : BitVec 1 := Scalar.cmpi .ne v825 c0_i32_498
  let v830 : BitVec 1 := Scalar.andi v829 v826
  let v831 : BitVec 32 := Scalar.addi v825 v824
  let v832 : BitVec 32 := Scalar.select v830 v831 v825
  let c16_i32_519 : BitVec 32 := 16#32
  let v847 : BitVec 32 := Scalar.muli v832 c16_i32_519
  let v848 : BitVec 32 := Scalar.addi v846 v847
  let c0_i32_521 : BitVec 32 := 0#32
  let c0_i32_522 : BitVec 32 := 0#32
  ![4, v795.toNat, v848.toNat, 0, 0]
@[reducible] def k0_t6_loop : Scf.Loop 32 :=
  let c0_i32_610 : BitVec 32 := 0#32
  let c128_i32_611 : BitVec 32 := 128#32
  let v992 : BitVec 32 := Scalar.addi c0_i32_610 c128_i32_611
  let c1_i32_612 : BitVec 32 := 1#32
  ⟨c0_i32_610, v992, c1_i32_612⟩
def k0_off87 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off88 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2256 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2257 : Index := Scalar.indexCast v2227
  let c0_1450 : Index := 0#32
  ![v2256.toNat, v2257.toNat, 0]
def k0_off89 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2261 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2262 : Index := Scalar.indexCast v2237
  let c16 : Index := 16#32
  ![v2261.toNat, v2262.toNat, 16]
def k0_off90 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2278 : Index := Scalar.indexCast v2227
  let c16_1456 : Index := 16#32
  ![v2277.toNat, v2278.toNat, 16]
def k0_off91 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2282 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c32 : Index := 32#32
  ![v2282.toNat, v2283.toNat, 32]
def k0_off92 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2298 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2299 : Index := Scalar.indexCast v2227
  let c32_1462 : Index := 32#32
  ![v2298.toNat, v2299.toNat, 32]
def k0_off93 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2303 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2304 : Index := Scalar.indexCast v2237
  let c48 : Index := 48#32
  ![v2303.toNat, v2304.toNat, 48]
def k0_off94 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c48_1468 : Index := 48#32
  ![v2319.toNat, v2320.toNat, 48]
def k0_off95 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c64 : Index := 64#32
  ![v2324.toNat, v2325.toNat, 64]
def k0_off96 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2340 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2341 : Index := Scalar.indexCast v2227
  let c64_1474 : Index := 64#32
  ![v2340.toNat, v2341.toNat, 64]
def k0_off97 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2345 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2346 : Index := Scalar.indexCast v2237
  let c80 : Index := 80#32
  ![v2345.toNat, v2346.toNat, 80]
def k0_off98 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2362 : Index := Scalar.indexCast v2227
  let c80_1480 : Index := 80#32
  ![v2361.toNat, v2362.toNat, 80]
def k0_off99 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2366 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2367 : Index := Scalar.indexCast v2237
  let c96 : Index := 96#32
  ![v2366.toNat, v2367.toNat, 96]
def k0_off100 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2382 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2383 : Index := Scalar.indexCast v2227
  let c96_1486 : Index := 96#32
  ![v2382.toNat, v2383.toNat, 96]
def k0_off101 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2387 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2388 : Index := Scalar.indexCast v2237
  let c112 : Index := 112#32
  ![v2387.toNat, v2388.toNat, 112]
def k0_off102 (k0_t6 : Fin k0_t6_loop.trips) : Fin 3 → Nat :=
  let c0_i32_1431 : BitVec 32 := 0#32
  let c0_i32_610 : BitVec 32 := 0#32
  let c1_i32_612 : BitVec 32 := 1#32
  let arg16 : BitVec 32 := Scf.iv c0_i32_610 c1_i32_612 k0_t6
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2403 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2404 : Index := Scalar.indexCast v2227
  let c112_1492 : Index := 112#32
  ![v2403.toNat, v2404.toNat, 112]
@[reducible] def k0_t7_loop : Scf.Loop 32 :=
  let c0_i32_706 : BitVec 32 := 0#32
  let c128_i32_707 : BitVec 32 := 128#32
  let v1139 : BitVec 32 := Scalar.addi c0_i32_706 c128_i32_707
  let c1_i32_708 : BitVec 32 := 1#32
  ⟨c0_i32_706, v1139, c1_i32_708⟩
def k0_off103 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off104 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2255 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2256 : Index := Scalar.indexCast v2227
  let c0_1449 : Index := 0#32
  ![v2255.toNat, v2256.toNat, 0]
def k0_off105 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2261 : Index := Scalar.indexCast v2237
  let c16 : Index := 16#32
  ![v2260.toNat, v2261.toNat, 16]
def k0_off106 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2275 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_1454 : Index := 16#32
  ![v2275.toNat, v2276.toNat, 16]
def k0_off107 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2280 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2281 : Index := Scalar.indexCast v2237
  let c32 : Index := 32#32
  ![v2280.toNat, v2281.toNat, 32]
def k0_off108 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c32_1459 : Index := 32#32
  ![v2295.toNat, v2296.toNat, 32]
def k0_off109 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c48 : Index := 48#32
  ![v2300.toNat, v2301.toNat, 48]
def k0_off110 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2315 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2316 : Index := Scalar.indexCast v2227
  let c48_1464 : Index := 48#32
  ![v2315.toNat, v2316.toNat, 48]
def k0_off111 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2321 : Index := Scalar.indexCast v2237
  let c64 : Index := 64#32
  ![v2320.toNat, v2321.toNat, 64]
def k0_off112 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2335 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2336 : Index := Scalar.indexCast v2227
  let c64_1469 : Index := 64#32
  ![v2335.toNat, v2336.toNat, 64]
def k0_off113 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2340 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2341 : Index := Scalar.indexCast v2237
  let c80 : Index := 80#32
  ![v2340.toNat, v2341.toNat, 80]
def k0_off114 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2355 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2356 : Index := Scalar.indexCast v2227
  let c80_1474 : Index := 80#32
  ![v2355.toNat, v2356.toNat, 80]
def k0_off115 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2360 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c96 : Index := 96#32
  ![v2360.toNat, v2361.toNat, 96]
def k0_off116 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2375 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2376 : Index := Scalar.indexCast v2227
  let c96_1479 : Index := 96#32
  ![v2375.toNat, v2376.toNat, 96]
def k0_off117 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2380 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2381 : Index := Scalar.indexCast v2237
  let c112 : Index := 112#32
  ![v2380.toNat, v2381.toNat, 112]
def k0_off118 (k0_t7 : Fin k0_t7_loop.trips) : Fin 3 → Nat :=
  let c0_i32_1431 : BitVec 32 := 0#32
  let c0_i32_706 : BitVec 32 := 0#32
  let c1_i32_708 : BitVec 32 := 1#32
  let arg16 : BitVec 32 := Scf.iv c0_i32_706 c1_i32_708 k0_t7
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2395 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2396 : Index := Scalar.indexCast v2227
  let c112_1484 : Index := 112#32
  ![v2395.toNat, v2396.toNat, 112]
@[reducible] def k0_t8_loop : Scf.Loop 32 :=
  let c0_i32_802 : BitVec 32 := 0#32
  let c128_i32_803 : BitVec 32 := 128#32
  let v1286 : BitVec 32 := Scalar.addi c0_i32_802 c128_i32_803
  let c1_i32_804 : BitVec 32 := 1#32
  ⟨c0_i32_802, v1286, c1_i32_804⟩
def k0_off119 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off120 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2247 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2248 : Index := Scalar.indexCast v2227
  let c0_1445 : Index := 0#32
  ![v2247.toNat, v2248.toNat, 0]
def k0_off121 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2252 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2253 : Index := Scalar.indexCast v2237
  let c16 : Index := 16#32
  ![v2252.toNat, v2253.toNat, 16]
def k0_off122 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2259 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_1446 : Index := 16#32
  ![v2259.toNat, v2260.toNat, 16]
def k0_off123 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2264 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2265 : Index := Scalar.indexCast v2237
  let c32 : Index := 32#32
  ![v2264.toNat, v2265.toNat, 32]
def k0_off124 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2271 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2272 : Index := Scalar.indexCast v2227
  let c32_1447 : Index := 32#32
  ![v2271.toNat, v2272.toNat, 32]
def k0_off125 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c48 : Index := 48#32
  ![v2276.toNat, v2277.toNat, 48]
def k0_off126 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2284 : Index := Scalar.indexCast v2227
  let c48_1448 : Index := 48#32
  ![v2283.toNat, v2284.toNat, 48]
def k0_off127 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2288 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2289 : Index := Scalar.indexCast v2237
  let c64 : Index := 64#32
  ![v2288.toNat, v2289.toNat, 64]
def k0_off128 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c64_1449 : Index := 64#32
  ![v2295.toNat, v2296.toNat, 64]
def k0_off129 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c80 : Index := 80#32
  ![v2300.toNat, v2301.toNat, 80]
def k0_off130 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2307 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2308 : Index := Scalar.indexCast v2227
  let c80_1450 : Index := 80#32
  ![v2307.toNat, v2308.toNat, 80]
def k0_off131 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2312 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2313 : Index := Scalar.indexCast v2237
  let c96 : Index := 96#32
  ![v2312.toNat, v2313.toNat, 96]
def k0_off132 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c96_1451 : Index := 96#32
  ![v2319.toNat, v2320.toNat, 96]
def k0_off133 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c112 : Index := 112#32
  ![v2324.toNat, v2325.toNat, 112]
def k0_off134 (k0_t8 : Fin k0_t8_loop.trips) : Fin 3 → Nat :=
  let c0_i32_1431 : BitVec 32 := 0#32
  let c0_i32_802 : BitVec 32 := 0#32
  let c1_i32_804 : BitVec 32 := 1#32
  let arg16 : BitVec 32 := Scf.iv c0_i32_802 c1_i32_804 k0_t8
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2331 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2332 : Index := Scalar.indexCast v2227
  let c112_1452 : Index := 112#32
  ![v2331.toNat, v2332.toNat, 112]
@[reducible] def k0_t9_loop : Scf.Loop 32 :=
  let c0_i32_898 : BitVec 32 := 0#32
  let c128_i32_899 : BitVec 32 := 128#32
  let v1433 : BitVec 32 := Scalar.addi c0_i32_898 c128_i32_899
  let c1_i32_900 : BitVec 32 := 1#32
  ⟨c0_i32_898, v1433, c1_i32_900⟩
def k0_off135 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off136 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2247 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2248 : Index := Scalar.indexCast v2227
  let c0_1445 : Index := 0#32
  ![v2247.toNat, v2248.toNat, 0]
def k0_off137 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2252 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2253 : Index := Scalar.indexCast v2237
  let c16 : Index := 16#32
  ![v2252.toNat, v2253.toNat, 16]
def k0_off138 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2259 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_1446 : Index := 16#32
  ![v2259.toNat, v2260.toNat, 16]
def k0_off139 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2264 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2265 : Index := Scalar.indexCast v2237
  let c32 : Index := 32#32
  ![v2264.toNat, v2265.toNat, 32]
def k0_off140 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2271 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2272 : Index := Scalar.indexCast v2227
  let c32_1447 : Index := 32#32
  ![v2271.toNat, v2272.toNat, 32]
def k0_off141 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c48 : Index := 48#32
  ![v2276.toNat, v2277.toNat, 48]
def k0_off142 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2284 : Index := Scalar.indexCast v2227
  let c48_1448 : Index := 48#32
  ![v2283.toNat, v2284.toNat, 48]
def k0_off143 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2288 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2289 : Index := Scalar.indexCast v2237
  let c64 : Index := 64#32
  ![v2288.toNat, v2289.toNat, 64]
def k0_off144 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c64_1449 : Index := 64#32
  ![v2295.toNat, v2296.toNat, 64]
def k0_off145 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c80 : Index := 80#32
  ![v2300.toNat, v2301.toNat, 80]
def k0_off146 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2307 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2308 : Index := Scalar.indexCast v2227
  let c80_1450 : Index := 80#32
  ![v2307.toNat, v2308.toNat, 80]
def k0_off147 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2312 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2313 : Index := Scalar.indexCast v2237
  let c96 : Index := 96#32
  ![v2312.toNat, v2313.toNat, 96]
def k0_off148 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c96_1451 : Index := 96#32
  ![v2319.toNat, v2320.toNat, 96]
def k0_off149 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c112 : Index := 112#32
  ![v2324.toNat, v2325.toNat, 112]
def k0_off150 (k0_t9 : Fin k0_t9_loop.trips) : Fin 3 → Nat :=
  let c0_i32_1431 : BitVec 32 := 0#32
  let c0_i32_898 : BitVec 32 := 0#32
  let c1_i32_900 : BitVec 32 := 1#32
  let arg16 : BitVec 32 := Scf.iv c0_i32_898 c1_i32_900 k0_t9
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2331 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2332 : Index := Scalar.indexCast v2227
  let c112_1452 : Index := 112#32
  ![v2331.toNat, v2332.toNat, 112]
@[reducible] def k0_t10_loop : Scf.Loop 32 :=
  let c0_i32_994 : BitVec 32 := 0#32
  let c128_i32_995 : BitVec 32 := 128#32
  let v1580 : BitVec 32 := Scalar.addi c0_i32_994 c128_i32_995
  let c1_i32_996 : BitVec 32 := 1#32
  ⟨c0_i32_994, v1580, c1_i32_996⟩
def k0_off151 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off152 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2255 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2256 : Index := Scalar.indexCast v2227
  let c0_1450 : Index := 0#32
  ![v2255.toNat, v2256.toNat, 0]
def k0_off153 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2261 : Index := Scalar.indexCast v2237
  let c16 : Index := 16#32
  ![v2260.toNat, v2261.toNat, 16]
def k0_off154 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2275 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_1456 : Index := 16#32
  ![v2275.toNat, v2276.toNat, 16]
def k0_off155 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2280 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2281 : Index := Scalar.indexCast v2237
  let c32 : Index := 32#32
  ![v2280.toNat, v2281.toNat, 32]
def k0_off156 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c32_1462 : Index := 32#32
  ![v2295.toNat, v2296.toNat, 32]
def k0_off157 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c48 : Index := 48#32
  ![v2300.toNat, v2301.toNat, 48]
def k0_off158 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2315 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2316 : Index := Scalar.indexCast v2227
  let c48_1468 : Index := 48#32
  ![v2315.toNat, v2316.toNat, 48]
def k0_off159 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2321 : Index := Scalar.indexCast v2237
  let c64 : Index := 64#32
  ![v2320.toNat, v2321.toNat, 64]
def k0_off160 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2335 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2336 : Index := Scalar.indexCast v2227
  let c64_1474 : Index := 64#32
  ![v2335.toNat, v2336.toNat, 64]
def k0_off161 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2340 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2341 : Index := Scalar.indexCast v2237
  let c80 : Index := 80#32
  ![v2340.toNat, v2341.toNat, 80]
def k0_off162 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2355 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2356 : Index := Scalar.indexCast v2227
  let c80_1480 : Index := 80#32
  ![v2355.toNat, v2356.toNat, 80]
def k0_off163 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2360 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c96 : Index := 96#32
  ![v2360.toNat, v2361.toNat, 96]
def k0_off164 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2375 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2376 : Index := Scalar.indexCast v2227
  let c96_1486 : Index := 96#32
  ![v2375.toNat, v2376.toNat, 96]
def k0_off165 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2380 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2381 : Index := Scalar.indexCast v2237
  let c112 : Index := 112#32
  ![v2380.toNat, v2381.toNat, 112]
def k0_off166 (k0_t10 : Fin k0_t10_loop.trips) : Fin 3 → Nat :=
  let c0_i32_1431 : BitVec 32 := 0#32
  let c0_i32_994 : BitVec 32 := 0#32
  let c1_i32_996 : BitVec 32 := 1#32
  let arg16 : BitVec 32 := Scf.iv c0_i32_994 c1_i32_996 k0_t10
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2395 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2396 : Index := Scalar.indexCast v2227
  let c112_1492 : Index := 112#32
  ![v2395.toNat, v2396.toNat, 112]
@[reducible] def k0_t11_loop : Scf.Loop 32 :=
  let c0_i32_1090 : BitVec 32 := 0#32
  let c128_i32_1091 : BitVec 32 := 128#32
  let v1727 : BitVec 32 := Scalar.addi c0_i32_1090 c128_i32_1091
  let c1_i32_1092 : BitVec 32 := 1#32
  ⟨c0_i32_1090, v1727, c1_i32_1092⟩
def k0_off167 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off168 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2256 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2257 : Index := Scalar.indexCast v2227
  let c0_1450 : Index := 0#32
  ![v2256.toNat, v2257.toNat, 0]
def k0_off169 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2261 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2262 : Index := Scalar.indexCast v2237
  let c16 : Index := 16#32
  ![v2261.toNat, v2262.toNat, 16]
def k0_off170 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2278 : Index := Scalar.indexCast v2227
  let c16_1456 : Index := 16#32
  ![v2277.toNat, v2278.toNat, 16]
def k0_off171 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2282 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c32 : Index := 32#32
  ![v2282.toNat, v2283.toNat, 32]
def k0_off172 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2298 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2299 : Index := Scalar.indexCast v2227
  let c32_1462 : Index := 32#32
  ![v2298.toNat, v2299.toNat, 32]
def k0_off173 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2303 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2304 : Index := Scalar.indexCast v2237
  let c48 : Index := 48#32
  ![v2303.toNat, v2304.toNat, 48]
def k0_off174 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c48_1468 : Index := 48#32
  ![v2319.toNat, v2320.toNat, 48]
def k0_off175 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c64 : Index := 64#32
  ![v2324.toNat, v2325.toNat, 64]
def k0_off176 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2340 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2341 : Index := Scalar.indexCast v2227
  let c64_1474 : Index := 64#32
  ![v2340.toNat, v2341.toNat, 64]
def k0_off177 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2345 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2346 : Index := Scalar.indexCast v2237
  let c80 : Index := 80#32
  ![v2345.toNat, v2346.toNat, 80]
def k0_off178 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2362 : Index := Scalar.indexCast v2227
  let c80_1480 : Index := 80#32
  ![v2361.toNat, v2362.toNat, 80]
def k0_off179 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2366 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2367 : Index := Scalar.indexCast v2237
  let c96 : Index := 96#32
  ![v2366.toNat, v2367.toNat, 96]
def k0_off180 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2382 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2383 : Index := Scalar.indexCast v2227
  let c96_1486 : Index := 96#32
  ![v2382.toNat, v2383.toNat, 96]
def k0_off181 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2387 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2388 : Index := Scalar.indexCast v2237
  let c112 : Index := 112#32
  ![v2387.toNat, v2388.toNat, 112]
def k0_off182 (k0_t11 : Fin k0_t11_loop.trips) : Fin 3 → Nat :=
  let c0_i32_1431 : BitVec 32 := 0#32
  let c0_i32_1090 : BitVec 32 := 0#32
  let c1_i32_1092 : BitVec 32 := 1#32
  let arg16 : BitVec 32 := Scf.iv c0_i32_1090 c1_i32_1092 k0_t11
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2403 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2404 : Index := Scalar.indexCast v2227
  let c112_1492 : Index := 112#32
  ![v2403.toNat, v2404.toNat, 112]
@[reducible] def k0_t12_loop : Scf.Loop 32 :=
  let c0_i32_1186 : BitVec 32 := 0#32
  let c128_i32_1187 : BitVec 32 := 128#32
  let v1874 : BitVec 32 := Scalar.addi c0_i32_1186 c128_i32_1187
  let c1_i32_1188 : BitVec 32 := 1#32
  ⟨c0_i32_1186, v1874, c1_i32_1188⟩
def k0_off183 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off184 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2255 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2256 : Index := Scalar.indexCast v2227
  let c0_1449 : Index := 0#32
  ![v2255.toNat, v2256.toNat, 0]
def k0_off185 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2261 : Index := Scalar.indexCast v2237
  let c16 : Index := 16#32
  ![v2260.toNat, v2261.toNat, 16]
def k0_off186 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2275 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_1454 : Index := 16#32
  ![v2275.toNat, v2276.toNat, 16]
def k0_off187 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2280 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2281 : Index := Scalar.indexCast v2237
  let c32 : Index := 32#32
  ![v2280.toNat, v2281.toNat, 32]
def k0_off188 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c32_1459 : Index := 32#32
  ![v2295.toNat, v2296.toNat, 32]
def k0_off189 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c48 : Index := 48#32
  ![v2300.toNat, v2301.toNat, 48]
def k0_off190 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2315 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2316 : Index := Scalar.indexCast v2227
  let c48_1464 : Index := 48#32
  ![v2315.toNat, v2316.toNat, 48]
def k0_off191 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2321 : Index := Scalar.indexCast v2237
  let c64 : Index := 64#32
  ![v2320.toNat, v2321.toNat, 64]
def k0_off192 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2335 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2336 : Index := Scalar.indexCast v2227
  let c64_1469 : Index := 64#32
  ![v2335.toNat, v2336.toNat, 64]
def k0_off193 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2340 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2341 : Index := Scalar.indexCast v2237
  let c80 : Index := 80#32
  ![v2340.toNat, v2341.toNat, 80]
def k0_off194 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2355 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2356 : Index := Scalar.indexCast v2227
  let c80_1474 : Index := 80#32
  ![v2355.toNat, v2356.toNat, 80]
def k0_off195 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2360 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c96 : Index := 96#32
  ![v2360.toNat, v2361.toNat, 96]
def k0_off196 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2375 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2376 : Index := Scalar.indexCast v2227
  let c96_1479 : Index := 96#32
  ![v2375.toNat, v2376.toNat, 96]
def k0_off197 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2380 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2381 : Index := Scalar.indexCast v2237
  let c112 : Index := 112#32
  ![v2380.toNat, v2381.toNat, 112]
def k0_off198 (k0_t12 : Fin k0_t12_loop.trips) : Fin 3 → Nat :=
  let c0_i32_1431 : BitVec 32 := 0#32
  let c0_i32_1186 : BitVec 32 := 0#32
  let c1_i32_1188 : BitVec 32 := 1#32
  let arg16 : BitVec 32 := Scf.iv c0_i32_1186 c1_i32_1188 k0_t12
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2395 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2396 : Index := Scalar.indexCast v2227
  let c112_1484 : Index := 112#32
  ![v2395.toNat, v2396.toNat, 112]
@[reducible] def k0_t13_loop : Scf.Loop 32 :=
  let c0_i32_1282 : BitVec 32 := 0#32
  let c128_i32_1283 : BitVec 32 := 128#32
  let v2021 : BitVec 32 := Scalar.addi c0_i32_1282 c128_i32_1283
  let c1_i32_1284 : BitVec 32 := 1#32
  ⟨c0_i32_1282, v2021, c1_i32_1284⟩
def k0_off199 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off200 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2247 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2248 : Index := Scalar.indexCast v2227
  let c0_1445 : Index := 0#32
  ![v2247.toNat, v2248.toNat, 0]
def k0_off201 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2252 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2253 : Index := Scalar.indexCast v2237
  let c16 : Index := 16#32
  ![v2252.toNat, v2253.toNat, 16]
def k0_off202 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2259 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_1446 : Index := 16#32
  ![v2259.toNat, v2260.toNat, 16]
def k0_off203 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2264 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2265 : Index := Scalar.indexCast v2237
  let c32 : Index := 32#32
  ![v2264.toNat, v2265.toNat, 32]
def k0_off204 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2271 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2272 : Index := Scalar.indexCast v2227
  let c32_1447 : Index := 32#32
  ![v2271.toNat, v2272.toNat, 32]
def k0_off205 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c48 : Index := 48#32
  ![v2276.toNat, v2277.toNat, 48]
def k0_off206 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2284 : Index := Scalar.indexCast v2227
  let c48_1448 : Index := 48#32
  ![v2283.toNat, v2284.toNat, 48]
def k0_off207 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2288 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2289 : Index := Scalar.indexCast v2237
  let c64 : Index := 64#32
  ![v2288.toNat, v2289.toNat, 64]
def k0_off208 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c64_1449 : Index := 64#32
  ![v2295.toNat, v2296.toNat, 64]
def k0_off209 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c80 : Index := 80#32
  ![v2300.toNat, v2301.toNat, 80]
def k0_off210 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2307 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2308 : Index := Scalar.indexCast v2227
  let c80_1450 : Index := 80#32
  ![v2307.toNat, v2308.toNat, 80]
def k0_off211 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2312 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2313 : Index := Scalar.indexCast v2237
  let c96 : Index := 96#32
  ![v2312.toNat, v2313.toNat, 96]
def k0_off212 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c96_1451 : Index := 96#32
  ![v2319.toNat, v2320.toNat, 96]
def k0_off213 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c112 : Index := 112#32
  ![v2324.toNat, v2325.toNat, 112]
def k0_off214 (k0_t13 : Fin k0_t13_loop.trips) : Fin 3 → Nat :=
  let c0_i32_1431 : BitVec 32 := 0#32
  let c0_i32_1282 : BitVec 32 := 0#32
  let c1_i32_1284 : BitVec 32 := 1#32
  let arg16 : BitVec 32 := Scf.iv c0_i32_1282 c1_i32_1284 k0_t13
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2331 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2332 : Index := Scalar.indexCast v2227
  let c112_1452 : Index := 112#32
  ![v2331.toNat, v2332.toNat, 112]
@[reducible] def k0_t14_loop : Scf.Loop 32 :=
  let c0_i32_1343 : BitVec 32 := 0#32
  let c128_i32_1344 : BitVec 32 := 128#32
  let v2105 : BitVec 32 := Scalar.addi c0_i32_1343 c128_i32_1344
  let c1_i32_1345 : BitVec 32 := 1#32
  ⟨c0_i32_1343, v2105, c1_i32_1345⟩
def k0_off215 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off216 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2247 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2248 : Index := Scalar.indexCast v2227
  let c0_1445 : Index := 0#32
  ![v2247.toNat, v2248.toNat, 0]
def k0_off217 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2252 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2253 : Index := Scalar.indexCast v2237
  let c16 : Index := 16#32
  ![v2252.toNat, v2253.toNat, 16]
def k0_off218 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2259 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_1446 : Index := 16#32
  ![v2259.toNat, v2260.toNat, 16]
def k0_off219 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2264 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2265 : Index := Scalar.indexCast v2237
  let c32 : Index := 32#32
  ![v2264.toNat, v2265.toNat, 32]
def k0_off220 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2271 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2272 : Index := Scalar.indexCast v2227
  let c32_1447 : Index := 32#32
  ![v2271.toNat, v2272.toNat, 32]
def k0_off221 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2277 : Index := Scalar.indexCast v2237
  let c48 : Index := 48#32
  ![v2276.toNat, v2277.toNat, 48]
def k0_off222 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2283 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2284 : Index := Scalar.indexCast v2227
  let c48_1448 : Index := 48#32
  ![v2283.toNat, v2284.toNat, 48]
def k0_off223 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2288 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2289 : Index := Scalar.indexCast v2237
  let c64 : Index := 64#32
  ![v2288.toNat, v2289.toNat, 64]
def k0_off224 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c64_1449 : Index := 64#32
  ![v2295.toNat, v2296.toNat, 64]
def k0_off225 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c80 : Index := 80#32
  ![v2300.toNat, v2301.toNat, 80]
def k0_off226 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2307 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2308 : Index := Scalar.indexCast v2227
  let c80_1450 : Index := 80#32
  ![v2307.toNat, v2308.toNat, 80]
def k0_off227 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2312 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2313 : Index := Scalar.indexCast v2237
  let c96 : Index := 96#32
  ![v2312.toNat, v2313.toNat, 96]
def k0_off228 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2319 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c96_1451 : Index := 96#32
  ![v2319.toNat, v2320.toNat, 96]
def k0_off229 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2324 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2325 : Index := Scalar.indexCast v2237
  let c112 : Index := 112#32
  ![v2324.toNat, v2325.toNat, 112]
def k0_off230 (k0_t14 : Fin k0_t14_loop.trips) : Fin 3 → Nat :=
  let c0_i32_1431 : BitVec 32 := 0#32
  let c0_i32_1343 : BitVec 32 := 0#32
  let c1_i32_1345 : BitVec 32 := 1#32
  let arg16 : BitVec 32 := Scf.iv c0_i32_1343 c1_i32_1345 k0_t14
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2331 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2332 : Index := Scalar.indexCast v2227
  let c112_1452 : Index := 112#32
  ![v2331.toNat, v2332.toNat, 112]
@[reducible] def k0_t15_loop : Scf.Loop 32 :=
  let c0_i32_1404 : BitVec 32 := 0#32
  let c128_i32_1405 : BitVec 32 := 128#32
  let v2189 : BitVec 32 := Scalar.addi c0_i32_1404 c128_i32_1405
  let c1_i32_1406 : BitVec 32 := 1#32
  ⟨c0_i32_1404, v2189, c1_i32_1406⟩
def k0_off231 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2240 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2241 : Index := Scalar.indexCast v2237
  let c0 : Index := 0#32
  ![v2240.toNat, v2241.toNat, 0]
def k0_off232 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2255 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2256 : Index := Scalar.indexCast v2227
  let c0_1450 : Index := 0#32
  ![v2255.toNat, v2256.toNat, 0]
def k0_off233 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2260 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2261 : Index := Scalar.indexCast v2237
  let c16 : Index := 16#32
  ![v2260.toNat, v2261.toNat, 16]
def k0_off234 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2275 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2276 : Index := Scalar.indexCast v2227
  let c16_1456 : Index := 16#32
  ![v2275.toNat, v2276.toNat, 16]
def k0_off235 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2280 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2281 : Index := Scalar.indexCast v2237
  let c32 : Index := 32#32
  ![v2280.toNat, v2281.toNat, 32]
def k0_off236 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2295 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2296 : Index := Scalar.indexCast v2227
  let c32_1462 : Index := 32#32
  ![v2295.toNat, v2296.toNat, 32]
def k0_off237 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2300 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2301 : Index := Scalar.indexCast v2237
  let c48 : Index := 48#32
  ![v2300.toNat, v2301.toNat, 48]
def k0_off238 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2315 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2316 : Index := Scalar.indexCast v2227
  let c48_1468 : Index := 48#32
  ![v2315.toNat, v2316.toNat, 48]
def k0_off239 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2320 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2321 : Index := Scalar.indexCast v2237
  let c64 : Index := 64#32
  ![v2320.toNat, v2321.toNat, 64]
def k0_off240 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2335 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2336 : Index := Scalar.indexCast v2227
  let c64_1474 : Index := 64#32
  ![v2335.toNat, v2336.toNat, 64]
def k0_off241 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2340 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2341 : Index := Scalar.indexCast v2237
  let c80 : Index := 80#32
  ![v2340.toNat, v2341.toNat, 80]
def k0_off242 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2355 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2356 : Index := Scalar.indexCast v2227
  let c80_1480 : Index := 80#32
  ![v2355.toNat, v2356.toNat, 80]
def k0_off243 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2360 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2361 : Index := Scalar.indexCast v2237
  let c96 : Index := 96#32
  ![v2360.toNat, v2361.toNat, 96]
def k0_off244 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2375 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2376 : Index := Scalar.indexCast v2227
  let c96_1486 : Index := 96#32
  ![v2375.toNat, v2376.toNat, 96]
def k0_off245 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2380 : Index := Scalar.indexCast v2227
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2381 : Index := Scalar.indexCast v2237
  let c112 : Index := 112#32
  ![v2380.toNat, v2381.toNat, 112]
def k0_off246 (k0_t15 : Fin k0_t15_loop.trips) : Fin 3 → Nat :=
  let c0_i32_1431 : BitVec 32 := 0#32
  let c0_i32_1404 : BitVec 32 := 0#32
  let c1_i32_1406 : BitVec 32 := 1#32
  let arg16 : BitVec 32 := Scf.iv c0_i32_1404 c1_i32_1406 k0_t15
  let c1_i32_1430 : BitVec 32 := 1#32
  let v2209 : BitVec 32 := Scalar.muli arg16 c1_i32_1430
  let v2210 : BitVec 32 := Scalar.addi c0_i32_1431 v2209
  let c16_i32_1439 : BitVec 32 := 16#32
  let c0_i32_1440 : BitVec 32 := 0#32
  let v2228 : BitVec 1 := Scalar.cmpi .eq c16_i32_1439 c0_i32_1440
  let c1_i32_1441 : BitVec 32 := 1#32
  let v2229 : BitVec 32 := Scalar.select v2228 c1_i32_1441 c16_i32_1439
  let v2230 : BitVec 32 := Scalar.remsi v2210 v2229
  let c0_i32_1443 : BitVec 32 := 0#32
  let v2232 : BitVec 1 := Scalar.cmpi .slt v2230 c0_i32_1443
  let c0_i32_1444 : BitVec 32 := 0#32
  let v2233 : BitVec 1 := Scalar.cmpi .slt v2229 c0_i32_1444
  let v2234 : BitVec 1 := Scalar.xori v2232 v2233
  let c0_i32_1442 : BitVec 32 := 0#32
  let v2231 : BitVec 1 := Scalar.cmpi .ne v2230 c0_i32_1442
  let v2235 : BitVec 1 := Scalar.andi v2234 v2231
  let v2236 : BitVec 32 := Scalar.addi v2230 v2229
  let v2237 : BitVec 32 := Scalar.select v2235 v2236 v2230
  let v2395 : Index := Scalar.indexCast v2237
  let c0_i32_1433 : BitVec 32 := 0#32
  let v2212 : BitVec 1 := Scalar.cmpi .sgt v2210 c0_i32_1433
  let v2213 : BitVec 32 := Scalar.extui v2212
  let c0_i32_1434 : BitVec 32 := 0#32
  let v2214 : BitVec 1 := Scalar.cmpi .slt v2210 c0_i32_1434
  let v2215 : BitVec 32 := Scalar.extui v2214
  let v2216 : BitVec 32 := Scalar.subi v2213 v2215
  let c16_i32_1432 : BitVec 32 := 16#32
  let c0_i32_1435 : BitVec 32 := 0#32
  let v2217 : BitVec 1 := Scalar.cmpi .sgt c16_i32_1432 c0_i32_1435
  let v2218 : BitVec 32 := Scalar.extui v2217
  let c0_i32_1436 : BitVec 32 := 0#32
  let v2219 : BitVec 1 := Scalar.cmpi .slt c16_i32_1432 c0_i32_1436
  let v2220 : BitVec 32 := Scalar.extui v2219
  let v2221 : BitVec 32 := Scalar.subi v2218 v2220
  let v2222 : BitVec 1 := Scalar.cmpi .ne v2216 v2221
  let v2223 : BitVec 32 := Scalar.remsi v2210 c16_i32_1432
  let c0_i32_1437 : BitVec 32 := 0#32
  let v2224 : BitVec 1 := Scalar.cmpi .ne v2223 c0_i32_1437
  let v2225 : BitVec 1 := Scalar.andi v2222 v2224
  let v2211 : BitVec 32 := Scalar.divsi v2210 c16_i32_1432
  let c1_i32_1438 : BitVec 32 := 1#32
  let v2226 : BitVec 32 := Scalar.subi v2211 c1_i32_1438
  let v2227 : BitVec 32 := Scalar.select v2225 v2226 v2211
  let v2396 : Index := Scalar.indexCast v2227
  let c112_1492 : Index := 112#32
  ![v2395.toNat, v2396.toNat, 112]
abbrev grid1 : Pipeline.Grid := ⟨2, ![4, 3], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x8x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x128x128x5 : Shape := ⟨5, ![32, 3, 128, 128, 5]⟩
abbrev S32x3x128x128x1 : Shape := ⟨5, ![32, 3, 128, 128, 1]⟩
abbrev S3x2 : Shape := ⟨2, ![3, 2]⟩
abbrev S32x3x128x128 : Shape := ⟨4, ![32, 3, 128, 128]⟩
abbrev S_ : Shape := ⟨0, ![]⟩
abbrev S128 : Shape := ⟨1, ![128]⟩
abbrev S128x128 : Shape := ⟨2, ![128, 128]⟩
abbrev S1x1x128x128 : Shape := ⟨4, ![1, 1, 128, 128]⟩
abbrev S1x3x1x1x2 : Shape := ⟨5, ![1, 3, 1, 1, 2]⟩
abbrev S32x3x128x128x2 : Shape := ⟨5, ![32, 3, 128, 128, 2]⟩
abbrev S32x49152x5 : Shape := ⟨3, ![32, 49152, 5]⟩
abbrev S32x49152 : Shape := ⟨2, ![32, 49152]⟩

abbrev nBuf : Space → Nat
  | .hbm => 102
  | .vmem => 0
  | .smem => 0
  | _ => 0

abbrev bufTy : (tb : Table) → Fin (tcTables nBuf tb) → BufTy
  | .hbm, ⟨0, _⟩ => ⟨S32x3x128x128x5, .f32⟩
  | .hbm, ⟨1, _⟩ => ⟨S32x3x128x128x1, .f32⟩
  | .hbm, ⟨2, _⟩ => ⟨S32x3x128x128x1, .f32⟩
  | .hbm, ⟨3, _⟩ => ⟨S3x2, .f32⟩
  | .hbm, ⟨4, _⟩ => ⟨S32x3x128x128x1, .f32⟩
  | .hbm, ⟨5, _⟩ => ⟨S32x3x128x128, .f32⟩
  | .hbm, ⟨6, _⟩ => ⟨S32x3x128x128, .f32⟩
  | .hbm, ⟨7, _⟩ => ⟨S32x3x128x128, .f32⟩
  | .hbm, ⟨8, _⟩ => ⟨S_, .f32⟩
  | .hbm, ⟨9, _⟩ => ⟨S32x3x128x128, .f32⟩
  | .hbm, ⟨10, _⟩ => ⟨S32x3x128x128, .f32⟩
  | .hbm, ⟨11, _⟩ => ⟨S_, .f32⟩
  | .hbm, ⟨12, _⟩ => ⟨S32x3x128x128, .f32⟩
  | .hbm, ⟨13, _⟩ => ⟨S32x3x128x128, .f32⟩
  | .hbm, ⟨14, _⟩ => ⟨S_, .f32⟩
  | .hbm, ⟨15, _⟩ => ⟨S32x3x128x128, .f32⟩
  | .hbm, ⟨16, _⟩ => ⟨S32x3x128x128, .f32⟩
  | .hbm, ⟨17, _⟩ => ⟨S_, .f32⟩
  | .hbm, ⟨18, _⟩ => ⟨S32x3x128x128, .f32⟩
  | .hbm, ⟨19, _⟩ => ⟨S32x3x128x128, .f32⟩
  | .hbm, ⟨20, _⟩ => ⟨S_, .f32⟩
  | .hbm, ⟨21, _⟩ => ⟨S32x3x128x128, .f32⟩
  | .hbm, ⟨22, _⟩ => ⟨S32x3x128x128, .f32⟩
  | .hbm, ⟨23, _⟩ => ⟨S128, .f32⟩
  | .hbm, ⟨24, _⟩ => ⟨S128, .f32⟩
  | .hbm, ⟨25, _⟩ => ⟨S128x128, .f32⟩
  | .hbm, ⟨26, _⟩ => ⟨S128x128, .f32⟩
  | .hbm, ⟨27, _⟩ => ⟨S32x3x128x128x1, .f32⟩
  | .hbm, ⟨28, _⟩ => ⟨S32x3x128x128, .f32⟩
  | .hbm, ⟨29, _⟩ => ⟨S32x3x128x128, .f32⟩
  | .hbm, ⟨30, _⟩ => ⟨S32x3x128x128, .f32⟩
  | .hbm, ⟨31, _⟩ => ⟨S_, .f32⟩
  | .hbm, ⟨32, _⟩ => ⟨S32x3x128x128, .f32⟩
  | .hbm, ⟨33, _⟩ => ⟨S32x3x128x128, .f32⟩
  | .hbm, ⟨34, _⟩ => ⟨S_, .f32⟩
  | .hbm, ⟨35, _⟩ => ⟨S32x3x128x128, .f32⟩
  | .hbm, ⟨36, _⟩ => ⟨S32x3x128x128, .f32⟩
  | .hbm, ⟨37, _⟩ => ⟨S1x1x128x128, .f32⟩
  | .hbm, ⟨38, _⟩ => ⟨S32x3x128x128, .f32⟩
  | .hbm, ⟨39, _⟩ => ⟨S32x3x128x128, .f32⟩
  | .hbm, ⟨40, _⟩ => ⟨S_, .f32⟩
  | .hbm, ⟨41, _⟩ => ⟨S32x3x128x128, .f32⟩
  | .hbm, ⟨42, _⟩ => ⟨S32x3x128x128, .f32⟩
  | .hbm, ⟨43, _⟩ => ⟨S32x3x128x128x1, .f32⟩
  | .hbm, ⟨44, _⟩ => ⟨S32x3x128x128, .f32⟩
  | .hbm, ⟨45, _⟩ => ⟨S32x3x128x128, .f32⟩
  | .hbm, ⟨46, _⟩ => ⟨S32x3x128x128, .f32⟩
  | .hbm, ⟨47, _⟩ => ⟨S_, .f32⟩
  | .hbm, ⟨48, _⟩ => ⟨S32x3x128x128, .f32⟩
  | .hbm, ⟨49, _⟩ => ⟨S32x3x128x128, .f32⟩
  | .hbm, ⟨50, _⟩ => ⟨S_, .f32⟩
  | .hbm, ⟨51, _⟩ => ⟨S32x3x128x128, .f32⟩
  | .hbm, ⟨52, _⟩ => ⟨S32x3x128x128, .f32⟩
  | .hbm, ⟨53, _⟩ => ⟨S1x1x128x128, .f32⟩
  | .hbm, ⟨54, _⟩ => ⟨S32x3x128x128, .f32⟩
  | .hbm, ⟨55, _⟩ => ⟨S32x3x128x128, .f32⟩
  | .hbm, ⟨56, _⟩ => ⟨S_, .f32⟩
  | .hbm, ⟨57, _⟩ => ⟨S32x3x128x128, .f32⟩
  | .hbm, ⟨58, _⟩ => ⟨S32x3x128x128, .f32⟩
  | .hbm, ⟨59, _⟩ => ⟨S1x3x1x1x2, .f32⟩
  | .hbm, ⟨60, _⟩ => ⟨S32x3x128x128x2, .f32⟩
  | .hbm, ⟨61, _⟩ => ⟨S32x3x128x128x2, .f32⟩
  | .hbm, ⟨62, _⟩ => ⟨S32x3x128x128x2, .f32⟩
  | .hbm, ⟨63, _⟩ => ⟨S32x3x128x128x2, .f32⟩
  | .hbm, ⟨64, _⟩ => ⟨S_, .f32⟩
  | .hbm, ⟨65, _⟩ => ⟨S32x3x128x128, .f32⟩
  | .hbm, ⟨66, _⟩ => ⟨S32x3x128x128, .f32⟩
  | .hbm, ⟨67, _⟩ => ⟨S_, .f32⟩
  | .hbm, ⟨68, _⟩ => ⟨S32x3x128x128, .f32⟩
  | .hbm, ⟨69, _⟩ => ⟨S32x3x128x128, .f32⟩
  | .hbm, ⟨70, _⟩ => ⟨S32x3x128x128x1, .f32⟩
  | .hbm, ⟨71, _⟩ => ⟨S32x3x128x128x1, .f32⟩
  | .hbm, ⟨72, _⟩ => ⟨S32x3x128x128x1, .f32⟩
  | .hbm, ⟨73, _⟩ => ⟨S32x3x128x128x5, .f32⟩
  | .hbm, ⟨74, _⟩ => ⟨S32x3x128x128x1, .f32⟩
  | .hbm, ⟨75, _⟩ => ⟨S32x3x128x128x1, .f32⟩
  | .hbm, ⟨76, _⟩ => ⟨S_, .f32⟩
  | .hbm, ⟨77, _⟩ => ⟨S32x3x128x128x1, .f32⟩
  | .hbm, ⟨78, _⟩ => ⟨S32x3x128x128x1, .f32⟩
  | .hbm, ⟨79, _⟩ => ⟨S_, .f32⟩
  | .hbm, ⟨80, _⟩ => ⟨S32x3x128x128x1, .f32⟩
  | .hbm, ⟨81, _⟩ => ⟨S32x3x128x128x1, .f32⟩
  | .hbm, ⟨82, _⟩ => ⟨S32x3x128x128x1, .f32⟩
  | .hbm, ⟨83, _⟩ => ⟨S32x3x128x128x1, .f32⟩
  | .hbm, ⟨84, _⟩ => ⟨S_, .f32⟩
  | .hbm, ⟨85, _⟩ => ⟨S32x3x128x128x1, .f32⟩
  | .hbm, ⟨86, _⟩ => ⟨S32x3x128x128x1, .f32⟩
  | .hbm, ⟨87, _⟩ => ⟨S_, .f32⟩
  | .hbm, ⟨88, _⟩ => ⟨S32x3x128x128x1, .f32⟩
  | .hbm, ⟨89, _⟩ => ⟨S32x3x128x128x1, .f32⟩
  | .hbm, ⟨90, _⟩ => ⟨S_, .f32⟩
  | .hbm, ⟨91, _⟩ => ⟨S32x3x128x128, .f32⟩
  | .hbm, ⟨92, _⟩ => ⟨S32x3x128x128x1, .f32⟩
  | .hbm, ⟨93, _⟩ => ⟨S32x3x128x128x1, .i32⟩
  | .hbm, ⟨94, _⟩ => ⟨S_, .f32⟩
  | .hbm, ⟨95, _⟩ => ⟨S_, .i32⟩
  | .hbm, ⟨96, _⟩ => ⟨S32x3x128x128, .f32⟩
  | .hbm, ⟨97, _⟩ => ⟨S32x3x128x128, .i32⟩
  | .hbm, ⟨98, _⟩ => ⟨S32x3x128x128x1, .f32⟩
  | .hbm, ⟨99, _⟩ => ⟨S32x49152x5, .f32⟩
  | .hbm, ⟨100, _⟩ => ⟨S32x49152, .i32⟩
  | .hbm, ⟨101, _⟩ => ⟨S32x49152, .f32⟩
  | _, _ => ⟨S32x3x128x128x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_cst_12 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_call0_v0 : Ref sig .tc := ⟨.hbm, 93, rfl⟩
abbrev main_call0_cst : Ref sig .tc := ⟨.hbm, 94, rfl⟩
abbrev main_call0_c : Ref sig .tc := ⟨.hbm, 95, rfl⟩
abbrev main_call0_v1_0 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Proof.Reference.lean ====
/- The reference is host operations alone. Its operations in order, and that every execution ends with every buffer at what
   they leave there. -/
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of @main's first part: the angle, the two box centres and the exponentials of the two box sizes. -/
def ops0 : List (HloOp τ sig (Elt F)) :=
  [ nullary main_cst (fun i => FloatOps.ofBits .f32 (lit0 (S3x2.rowMajor i))),
    unary main_arg0 main_v0 ((extractStridedSlice S32x3x128x128x1 ![0, 0, 0, 0, 4] · slices_S32x3x128x128x5_S32x3x128x128x1_0_0_0_0_4) : (⟨S32x3x128x128x5, .f32⟩ : BufTy).Contents (Elt F) → (⟨S32x3x128x128x1, .f32⟩ : BufTy).Contents (Elt F)),
    reshape main_v0 main_v1 (rfl : (.f32 : EltTy) = .f32) shapeCasts_S32x3x128x128x1_S32x3x128x128,
    unary main_v1 main_v2 (Host.negf : (⟨S32x3x128x128, .f32⟩ : BufTy).Contents (Elt F) → (⟨S32x3x128x128, .f32⟩ : BufTy).Contents (Elt F)),
    unary main_v2 main_v3 (Host.exp : (⟨S32x3x128x128, .f32⟩ : BufTy).Contents (Elt F) → (⟨S32x3x128x128, .f32⟩ : BufTy).Contents (Elt F)),
    nullary main_cst_0 (constant S_ .f32 0x3F800000#32),
    unary main_cst_0 main_v4 (broadcastInDim S32x3x128x128 ![] bcast_S_S32x3x128x128 : (⟨S_, .f32⟩ : BufTy).Contents (Elt F) → (⟨S32x3x128x128, .f32⟩ : BufTy).Contents (Elt F)),
    binary main_v4 main_v3 main_v5 (addf : (⟨S32x3x128x128, .f32⟩ : BufTy).Contents (Elt F) → (⟨S32x3x128x128, .f32⟩ : BufTy).Contents (Elt F) → (⟨S32x3x128x128, .f32⟩ : BufTy).Contents (Elt F)),
    nullary main_cst_1 (constant S_ .f32 0x3F800000#32),
    unary main_cst_1 main_v6 (broadcastInDim S32x3x128x128 ![] bcast_S_S32x3x128x128 : (⟨S_, .f32⟩ : BufTy).Contents (Elt F) → (⟨S32x3x128x128, .f32⟩ : BufTy).Contents (Elt F)),
    binary main_v6 main_v5 main_v7 (Host.divf : (⟨S32x3x128x128, .f32⟩ : BufTy).Contents (Elt F) → (⟨S32x3x128x128, .f32⟩ : BufTy).Contents (Elt F) → (⟨S32x3x128x128, .f32⟩ : BufTy).Contents (Elt F)),
    nullary main_cst_2 (constant S_ .f32 0x40000000#32),
    unary main_cst_2 main_v8 (broadcastInDim S32x3x128x128 ![] bcast_S_S32x3x128x128 : (⟨S_, .f32⟩ : BufTy).Contents (Elt F) → (⟨S32x3x128x128, .f32⟩ : BufTy).Contents (Elt F)),
    binary main_v7 main_v8 main_v9 (mulf : (⟨S32x3x128x128, .f32⟩ : BufTy).Contents (Elt F) → (⟨S32x3x128x128, .f32⟩ : BufTy).Contents (Elt F) → (⟨S32x3x128x128, .f32⟩ : BufTy).Contents (Elt F)),
    nullary main_cst_3 (constant S_ .f32 0x40490FDB#32),
    unary main_cst_3 main_v10 (broadcastInDim S32x3x128x128 ![] bcast_S_S32x3x128x128 : (⟨S_, .f32⟩ : BufTy).Contents (Elt F) → (⟨S32x3x128x128, .f32⟩ : BufTy).Contents (Elt F)),
    binary main_v9 main_v10 main_v11 (mulf : (⟨S32x3x128x128, .f32⟩ : BufTy).Contents (Elt F) → (⟨S32x3x128x128, .f32⟩ : BufTy).Contents (Elt F) → (⟨S32x3x128x128, .f32⟩ : BufTy).Contents (Elt F)),
    nullary main_cst_4 (constant S_ .f32 0x40490FDB#32),
    unary main_cst_4 main_v12 (broadcastInDim S32x3x128x128 ![] bcast_S_S32x3x128x128 : (⟨S_, .f32⟩ : BufTy).Contents (Elt F) → (⟨S32x3x128x128, .f32⟩ : BufTy).Contents (Elt F)),
    binary main_v11 main_v12 main_v13 (subf : (⟨S32x3x128x128, .f32⟩ : BufTy).Contents (Elt F) → (⟨S32x3x128x128, .f32⟩ : BufTy).Contents (Elt F) → (⟨S32x3x128x128, .f32⟩ : BufTy).Contents (Elt F)),
    nullary main_v14 (sitofp .f32 (iotaInDim S128 32 0)),
    nullary main_v15 (sitofp .f32 (iotaInDim S128 32 0)),
    unary main_v14 main_v16 (broadcastInDim S128x128 ![0] bcast_S128_S128x128_0 : (⟨S128, .f32⟩ : BufTy).Contents (Elt F) → (⟨S128x128, .f32⟩ : BufTy).Contents (Elt F)),
    unary main_v15 main_v17 (broadcastInDim S128x128 ![1] bcast_S128_S128x128_1 : (⟨S128, .f32⟩ : BufTy).Contents (Elt F) → (⟨S128x128, .f32⟩ : BufTy).Contents (Elt F)),
    unary main_arg0 main_v18 ((extractStridedSlice S32x3x128x128x1 ![0, 0, 0, 0, 0] · slices_S32x3x128x128x5_S32x3x128x128x1_0_0_0_0_0) : (⟨S32x3x128x128x5, .f32⟩ : BufTy).Contents (Elt F) → (⟨S32x3x128x128x1, .f32⟩ : BufTy).Contents (Elt F)),
    reshape main_v18 main_v19 (rfl : (.f32 : EltTy) = .f32) shapeCasts_S32x3x128x128x1_S32x3x128x128,
    unary main_v19 main_v20 (Host.negf : (⟨S32x3x128x128, .f32⟩ : BufTy).Contents (Elt F) → (⟨S32x3x128x128, .f32⟩ : BufTy).Contents (Elt F)),
    unary main_v20 main_v21 (Host.exp : (⟨S32x3x128x128, .f32⟩ : BufTy).Contents (Elt F) → (⟨S32x3x128x128, .f32⟩ : BufTy).Contents (Elt F)),
    nullary main_cst_5 (constant S_ .f32 0x3F800000#32),
    unary main_cst_5 main_v22 (broadcastInDim S32x3x128x128 ![] bcast_S_S32x3x128x128 : (⟨S_, .f32⟩ : BufTy).Contents (Elt F) → (⟨S32x3x128x128, .f32⟩ : BufTy).Contents (Elt F)),
    binary main_v22 main_v21 main_v23 (addf : (⟨S32x3x128x128, .f32⟩ : BufTy).Contents (Elt F) → (⟨S32x3x128x128, .f32⟩ : BufTy).Contents (Elt F) → (⟨S32x3x128x128, .f32⟩ : BufTy).Contents (Elt F)),
    nullary main_cst_6 (constant S_ .f32 0x3F800000#32),
    unary main_cst_6 main_v24 (broadcastInDim S32x3x128x128 ![] bcast_S_S32x3x128x128 : (⟨S_, .f32⟩ : BufTy).Contents (Elt F) → (⟨S32x3x128x128, .f32⟩ : BufTy).Contents (Elt F)),
    binary main_v24 main_v23 main_v25 (Host.divf : (⟨S32x3x128x128, .f32⟩ : BufTy).Contents (Elt F) → (⟨S32x3x128x128, .f32⟩ : BufTy).Contents (Elt F) → (⟨S32x3x128x128, .f32⟩ : BufTy).Contents (Elt F)),
    unary main_v17 main_v26 (broadcastInDim S1x1x128x128 ![2, 3] bcast_S128x128_S1x1x128x128_2_3 : (⟨S128x128, .f32⟩ : BufTy).Contents (Elt F) → (⟨S1x1x128x128, .f32⟩ : BufTy).Contents (Elt F)),
    unary main_v26 main_v27 (broadcastInDim S32x3x128x128 ![0, 1, 2, 3] bcast_S1x1x128x128_S32x3x128x128_0_1_2_3 : (⟨S1x1x128x128, .f32⟩ : BufTy).Contents (Elt F) → (⟨S32x3x128x128, .f32⟩ : BufTy).Contents (Elt F)),
    binary main_v25 main_v27 main_v28 (addf : (⟨S32x3x128x128, .f32⟩ : BufTy).Contents (Elt F) → (⟨S32x3x128x128, .f32⟩ : BufTy).Contents (Elt F) → (⟨S32x3x128x128, .f32⟩ : BufTy).Contents (Elt F)),
    nullary main_cst_7 (constant S_ .f32 0x41000000#32),
    unary main_cst_7 main_v29 (broadcastInDim S32x3x128x128 ![] bcast_S_S32x3x128x128 : (⟨S_, .f32⟩ : BufTy).Contents (Elt F) → (⟨S32x3x128x128, .f32⟩ : BufTy).Contents (Elt F)),
    binary main_v28 main_v29 main_v30 (mulf : (⟨S32x3x128x128, .f32⟩ : BufTy).Contents (Elt F) → (⟨S32x3x128x128, .f32⟩ : BufTy).Contents (Elt F) → (⟨S32x3x128x128, .f32⟩ : BufTy).Contents (Elt F)),
    unary main_arg0 main_v31 ((extractStridedSlice S32x3x128x128x1 ![0, 0, 0, 0, 1] · slices_S32x3x128x128x5_S32x3x128x128x1_0_0_0_0_1) : (⟨S32x3x128x128x5, .f32⟩ : BufTy).Contents (Elt F) → (⟨S32x3x128x128x1, .f32⟩ : BufTy).Contents (Elt F)),
    reshape main_v31 main_v32 (rfl : (.f32 : EltTy) = .f32) shapeCasts_S32x3x128x128x1_S32x3x128x128,
    unary main_v32 main_v33 (Host.negf : (⟨S32x3x128x128, .f32⟩ : BufTy).Contents (Elt F) → (⟨S32x3x128x128, .f32⟩ : BufTy).Contents (Elt F)),
    unary main_v33 main_v34 (Host.exp : (⟨S32x3x128x128, .f32⟩ : BufTy).Contents (Elt F) → (⟨S32x3x128x128, .f32⟩ : BufTy).Contents (Elt F)),
    nullary main_cst_8 (constant S_ .f32 0x3F800000#32),
    unary main_cst_8 main_v35 (broadcastInDim S32x3x128x128 ![] bcast_S_S32x3x128x128 : (⟨S_, .f32⟩ : BufTy).Contents (Elt F) → (⟨S32x3x128x128, .f32⟩ : BufTy).Contents (Elt F)),
    binary main_v35 main_v34 main_v36 (addf : (⟨S32x3x128x128, .f32⟩ : BufTy).Contents (Elt F) → (⟨S32x3x128x128, .f32⟩ : BufTy).Contents (Elt F) → (⟨S32x3x128x128, .f32⟩ : BufTy).Contents (Elt F)),
    nullary main_cst_9 (constant S_ .f32 0x3F800000#32),
    unary main_cst_9 main_v37 (broadcastInDim S32x3x128x128 ![] bcast_S_S32x3x128x128 : (⟨S_, .f32⟩ : BufTy).Contents (Elt F) → (⟨S32x3x128x128, .f32⟩ : BufTy).Contents (Elt F)),
    binary main_v37 main_v36 main_v38 (Host.divf : (⟨S32x3x128x128, .f32⟩ : BufTy).Contents (Elt F) → (⟨S32x3x128x128, .f32⟩ : BufTy).Contents (Elt F) → (⟨S32x3x128x128, .f32⟩ : BufTy).Contents (Elt F)),
    unary main_v16 main_v39 (broadcastInDim S1x1x128x128 ![2, 3] bcast_S128x128_S1x1x128x128_2_3 : (⟨S128x128, .f32⟩ : BufTy).Contents (Elt F) → (⟨S1x1x128x128, .f32⟩ : BufTy).Contents (Elt F)),
    unary main_v39 main_v40 (broadcastInDim S32x3x128x128 ![0, 1, 2, 3] bcast_S1x1x128x128_S32x3x128x128_0_1_2_3 : (⟨S1x1x128x128, .f32⟩ : BufTy).Contents (Elt F) → (⟨S32x3x128x128, .f32⟩ : BufTy).Contents (Elt F)),
    binary main_v38 main_v40 main_v41 (addf : (⟨S32x3x128x128, .f32⟩ : BufTy).Contents (Elt F) → (⟨S32x3x128x128, .f32⟩ : BufTy).Contents (Elt F) → (⟨S32x3x128x128, .f32⟩ : BufTy).Contents (Elt F)),
    nullary main_cst_10 (constant S_ .f32 0x41000000#32),
    unary main_cst_10 main_v42 (broadcastInDim S32x3x128x128 ![] bcast_S_S32x3x128x128 : (⟨S_, .f32⟩ : BufTy).Contents (Elt F) → (⟨S32x3x128x128, .f32⟩ : BufTy).Contents (Elt F)),
    binary main_v41 main_v42 main_v43 (mulf : (⟨S32x3x128x128, .f32⟩ : BufTy).Contents (Elt F) → (⟨S32x3x128x128, .f32⟩ : BufTy).Contents (Elt F) → (⟨S32x3x128x128, .f32⟩ : BufTy).Contents (Elt F)),
    reshape main_cst main_v44 (rfl : (.f32 : EltTy) = .f32) shapeCasts_S3x2_S1x3x1x1x2,
    unary main_arg0 main_v45 ((extractStridedSlice S32x3x128x128x2 ![0, 0, 0, 0, 2] · slices_S32x3x128x128x5_S32x3x128x128x2_0_0_0_0_2) : (⟨S32x3x128x128x5, .f32⟩ : BufTy).Contents (Elt F) → (⟨S32x3x128x128x2, .f32⟩ : BufTy).Contents (Elt F)),
    unary main_v45 main_v46 (Host.exp : (⟨S32x3x128x128x2, .f32⟩ : BufTy).Contents (Elt F) → (⟨S32x3x128x128x2, .f32⟩ : BufTy).Contents (Elt F)),
    unary main_v44 main_v47 (broadcastInDim S32x3x128x128x2 ![0, 1, 2, 3, 4] bcast_S1x3x1x1x2_S32x3x128x128x2_0_1_2_3_4 : (⟨S1x3x1x1x2, .f32⟩ : BufTy).Contents (Elt F) → (⟨S32x3x128x128x2, .f32⟩ : BufTy).Contents (Elt F)) ]

/-- The operations of the second part: the sizes, the angle in degrees, the boxes put together, the two scores. -/
def ops1 : List (HloOp τ sig (Elt F)) :=
  [ binary main_v46 main_v47 main_v48 (mulf : (⟨S32x3x128x128x2, .f32⟩ : BufTy).Contents (Elt F) → (⟨S32x3x128x128x2, .f32⟩ : BufTy).Contents (Elt F) → (⟨S32x3x128x128x2, .f32⟩ : BufTy).Contents (Elt F)),
    nullary main_cst_11 (constant S_ .f32 0x40490FDB#32),
    unary main_cst_11 main_v49 (broadcastInDim S32x3x128x128 ![] bcast_S_S32x3x128x128 : (⟨S_, .f32⟩ : BufTy).Contents (Elt F) → (⟨S32x3x128x128, .f32⟩ : BufTy).Contents (Elt F)),
    binary main_v13 main_v49 main_v50 (Host.divf : (⟨S32x3x128x128, .f32⟩ : BufTy).Contents (Elt F) → (⟨S32x3x128x128, .f32⟩ : BufTy).Contents (Elt F) → (⟨S32x3x128x128, .f32⟩ : BufTy).Contents (Elt F)),
    nullary main_cst_12 (constant S_ .f32 0x43340000#32),
    unary main_cst_12 main_v51 (broadcastInDim S32x3x128x128 ![] bcast_S_S32x3x128x128 : (⟨S_, .f32⟩ : BufTy).Contents (Elt F) → (⟨S32x3x128x128, .f32⟩ : BufTy).Contents (Elt F)),
    binary main_v50 main_v51 main_v52 (mulf : (⟨S32x3x128x128, .f32⟩ : BufTy).Contents (Elt F) → (⟨S32x3x128x128, .f32⟩ : BufTy).Contents (Elt F) → (⟨S32x3x128x128, .f32⟩ : BufTy).Contents (Elt F)),
    unary main_v30 main_v53 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    unary main_v43 main_v54 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    unary main_v52 main_v55 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    nary ![main_v53, main_v54, main_v48, main_v55] main_v56 (fun u => (concatenate S32x3x128x128x5 4 [⟨S32x3x128x128x1, (u 0 : (⟨S32x3x128x128x1, .f32⟩ : BufTy).Contents (Elt F))⟩, ⟨S32x3x128x128x1, (u 1 : (⟨S32x3x128x128x1, .f32⟩ : BufTy).Contents (Elt F))⟩, ⟨S32x3x128x128x2, (u 2 : (⟨S32x3x128x128x2, .f32⟩ : BufTy).Contents (Elt F))⟩, ⟨S32x3x128x128x1, (u 3 : (⟨S32x3x128x128x1, .f32⟩ : BufTy).Contents (Elt F))⟩] concatenates_S32x3x128x128x1_S32x3x128x128x1_S32x3x128x128x2_S32x3x128x128x1_S32x3x128x128x5_d4 : (⟨S32x3x128x128x5, .f32⟩ : BufTy).Contents (Elt F))),
    unary main_arg1 main_v57 (Host.negf : (⟨S32x3x128x128x1, .f32⟩ : BufTy).Contents (Elt F) → (⟨S32x3x128x128x1, .f32⟩ : BufTy).Contents (Elt F)),
    unary main_v57 main_v58 (Host.exp : (⟨S32x3x128x128x1, .f32⟩ : BufTy).Contents (Elt F) → (⟨S32x3x128x128x1, .f32⟩ : BufTy).Contents (Elt F)),
    nullary main_cst_13 (constant S_ .f32 0x3F800000#32),
    unary main_cst_13 main_v59 (broadcastInDim S32x3x128x128x1 ![] bcast_S_S32x3x128x128x1 : (⟨S_, .f32⟩ : BufTy).Contents (Elt F) → (⟨S32x3x128x128x1, .f32⟩ : BufTy).Contents (Elt F)),
    binary main_v59 main_v58 main_v60 (addf : (⟨S32x3x128x128x1, .f32⟩ : BufTy).Contents (Elt F) → (⟨S32x3x128x128x1, .f32⟩ : BufTy).Contents (Elt F) → (⟨S32x3x128x128x1, .f32⟩ : BufTy).Contents (Elt F)),
    nullary main_cst_14 (constant S_ .f32 0x3F800000#32),
    unary main_cst_14 main_v61 (broadcastInDim S32x3x128x128x1 ![] bcast_S_S32x3x128x128x1 : (⟨S_, .f32⟩ : BufTy).Contents (Elt F) → (⟨S32x3x128x128x1, .f32⟩ : BufTy).Contents (Elt F)),
    binary main_v61 main_v60 main_v62 (Host.divf : (⟨S32x3x128x128x1, .f32⟩ : BufTy).Contents (Elt F) → (⟨S32x3x128x128x1, .f32⟩ : BufTy).Contents (Elt F) → (⟨S32x3x128x128x1, .f32⟩ : BufTy).Contents (Elt F)),
    unary main_arg2 main_v63 (Host.negf : (⟨S32x3x128x128x1, .f32⟩ : BufTy).Contents (Elt F) → (⟨S32x3x128x128x1, .f32⟩ : BufTy).Contents (Elt F)),
    unary main_v63 main_v64 (Host.exp : (⟨S32x3x128x128x1, .f32⟩ : BufTy).Contents (Elt F) → (⟨S32x3x128x128x1, .f32⟩ : BufTy).Contents (Elt F)),
    nullary main_cst_15 (constant S_ .f32 0x3F800000#32),
    unary main_cst_15 main_v65 (broadcastInDim S32x3x128x128x1 ![] bcast_S_S32x3x128x128x1 : (⟨S_, .f32⟩ : BufTy).Contents (Elt F) → (⟨S32x3x128x128x1, .f32⟩ : BufTy).Contents (Elt F)),
    binary main_v65 main_v64 main_v66 (addf : (⟨S32x3x128x128x1, .f32⟩ : BufTy).Contents (Elt F) → (⟨S32x3x128x128x1, .f32⟩ : BufTy).Contents (Elt F) → (⟨S32x3x128x128x1, .f32⟩ : BufTy).Contents (Elt F)),
    nullary main_cst_16 (constant S_ .f32 0x3F800000#32),
    unary main_cst_16 main_v67 (broadcastInDim S32x3x128x128x1 ![] bcast_S_S32x3x128x128x1 : (⟨S_, .f32⟩ : BufTy).Contents (Elt F) → (⟨S32x3x128x128x1, .f32⟩ : BufTy).Contents (Elt F)),
    binary main_v67 main_v66 main_v68 (Host.divf : (⟨S32x3x128x128x1, .f32⟩ : BufTy).Contents (Elt F) → (⟨S32x3x128x128x1, .f32⟩ : BufTy).Contents (Elt F) → (⟨S32x3x128x128x1, .f32⟩ : BufTy).Contents (Elt F)),
    nullary main_cst_17 (constant S_ .f32 0xFF800000#32),
    binary main_v68 main_cst_17 main_v69 ((fun x v => Host.reduce FloatOps.maximumf x v reducesTo_S32x3x128x128x1_S32x3x128x128_d4 h_S_) : (⟨S32x3x128x128x1, .f32⟩ : BufTy).Contents (Elt F) → (⟨S_, .f32⟩ : BufTy).Contents (Elt F) → (⟨S32x3x128x128, .f32⟩ : BufTy).Contents (Elt F)),
    unary main_v69 main_v70 (broadcastInDim S32x3x128x128x1 ![0, 1, 2, 3] bcast_S32x3x128x128_S32x3x128x128x1_0_1_2_3 : (⟨S32x3x128x128, .f32⟩ : BufTy).Contents (Elt F) → (⟨S32x3x128x128x1, .f32⟩ : BufTy).Contents (Elt F)),
    TRef.nullary (.of main_call0_v0) (iotaInDim S32x3x128x128x1 32 4),
    TRef.nullary (.of main_call0_cst) (constant S_ .f32 0xFF800000#32),
    TRef.nullary (.of main_call0_c) (constantI S_ 32 0#32),
    TRef.quaternary (.of main_v68) (.of main_call0_v0) (.of main_call0_cst) (.of main_call0_c) (.of main_call0_v1_0) (fun x y u v j => (Host.argReduce reducer_argmax_f32_i32 x y u v reducesTo_S32x3x128x128x1_S32x3x128x128_d4 h_S_ j).1),
    TRef.quaternary (.of main_v68) (.of main_call0_v0) (.of main_call0_cst) (.of main_call0_c) (.of main_v71) (fun x y u v j => (Host.argReduce reducer_argmax_f32_i32 x y u v reducesTo_S32x3x128x128x1_S32x3x128x128_d4 h_S_ j).2),
    binary main_v62 main_v70 main_v72 (mulf : (⟨S32x3x128x128x1, .f32⟩ : BufTy).Contents (Elt F) → (⟨S32x3x128x128x1, .f32⟩ : BufTy).Contents (Elt F) → (⟨S32x3x128x128x1, .f32⟩ : BufTy).Contents (Elt F)),
    reshape main_v56 main_v73 (rfl : (.f32 : EltTy) = .f32) shapeCasts_S32x3x128x128x5_S32x49152x5,
    reshape main_v71 main_v74 (rfl : (.i32 : EltTy) = .i32) shapeCasts_S32x3x128x128_S32x49152,
    reshape main_v72 main_v75 (rfl : (.f32 : EltTy) = .f32) shapeCasts_S32x3x128x128x1_S32x49152 ]

/-- All of them. -/
def ops : List (HloOp τ sig (Elt F)) := ops0 ++ ops1

theorem part0_eq (d : Dev nD) : IsSeq (main_part0 (F := F) d) ops0 := by
  unfold main_part0 ops0
  hlo_seq
theorem part1_eq (d : Dev nD) : IsSeq (main_part1 (F := F) d) ops1 := by
  unfold main_part1 ops1 fn_argmax.body
  simp only [bind_assoc, pure_bind]
  hlo_seq

theorem main_eq (d : Dev nD) : IsSeq (main (F := F) d) ops := by
  unfold IsSeq main ops
  rw [seq_append, part0_eq d, part1_eq d]

theorem scoped_refs : (Finset.univ.filter fun b : Ref sig .tc => b.isScoped) = ∅ := by decide
theorem scoped_sems : (Finset.univ.filter fun sm : SemLoc sig => sm.isScoped .tc) = ∅ := by decide

theorem sub0 : (ops0 (F := F)).Forall fun op => op.bufs ⊆ tcRefs τ sig := by
  unfold ops0
  simp only [List.Forall, nullary_bufs_sub, unary_bufs_sub, binary_bufs_sub, reshape_bufs_sub, and_self]
theorem sub1 : (ops1 (F := F)).Forall fun op => op.bufs ⊆ tcRefs τ sig := by
  unfold ops1
  simp only [List.Forall, nullary_bufs_sub, unary_bufs_sub, binary_bufs_sub, reshape_bufs_sub, nary_bufs_sub, TRef.nullary,
    TRef.quaternary, quaternary_bufs_sub, and_self]
theorem ops_sub : (ops (F := F)).Forall fun op => op.bufs ⊆ tcRefs τ sig :=
  List.forall_iff_forall_mem.mpr fun op h => (List.mem_append.mp h).elim
    (List.forall_iff_forall_mem.mp sub0 op) (List.forall_iff_forall_mem.mp sub1 op)
theorem ops_fresh : ∀ op ∈ ops (F := F), op.fresh = ∅ := fun op h => (List.mem_append.mp h).elim
  (List.forall_iff_forall_mem.mp (forall_fresh_of_map (ops := ops0 (F := F)) rfl) op)
  (List.forall_iff_forall_mem.mp (forall_fresh_of_map (ops := ops1 (F := F)) rfl) op)

/-- Every execution ends with each buffer at what the operations leave in it, and with every semaphore at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after ops (launchContents m d) (Proc.devRef .tc b))
        ∧ r.2.sem = fun _ => 0 :=
  θ_run_mono (run_hlo defs main main_eq scoped_refs scoped_sems ops_sub ops_fresh m ρ)
    fun r h => ⟨h, sem_eq_zero_of_no_sems (by decide) r.2⟩

/-! ## The arguments are kept -/

variable (V : Valuation τ sig (Elt F))

theorem keep0 : after ops V (Proc.devRef .tc main_arg0) = V (Proc.devRef .tc main_arg0) := by after_reads_simp
theorem keep1 : after ops V (Proc.devRef .tc main_arg1) = V (Proc.devRef .tc main_arg1) := by after_reads_simp
theorem keep2 : after ops V (Proc.devRef .tc main_arg2) = V (Proc.devRef .tc main_arg2) := by after_reads_simp

end Cert.Proof.Ref

end
-- ==== Proof.Trip.lean ====
/- One trip of an item's loop, said once: a trip of any of the kernel's fifteen loops reads eight sixteen-lane groups of a row
   of the input buffer, works on each, and stores it to the transposed row of the output buffer. `trip` is that
   program over the two buffers and the work done; each printed loop is `itemLoop` at its own buffers and channel. -/
module

public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-! ## What each channel does to sixteen lanes -/

/-- `1 / (1 + exp (0 - x))`, as the kernel prints the sigmoid. -/
def sig16 (x : FVec F S16 .f32) : FVec F S16 .f32 :=
  divf (broadcast S16 (Scalar.ofBits .f32 0x3F800000#32))
    (addf (broadcast S16 (Scalar.ofBits .f32 0x3F800000#32))
      (exp (subf (broadcast S16 (Scalar.ofBits .f32 0x00000000#32)) x)))

/-- The float word of `16 c`, the first lane of group `c`. -/
def laneWord : Fin 8 → BitVec 32
  | 0 => 0x00000000#32 | 1 => 0x41800000#32 | 2 => 0x42000000#32 | 3 => 0x42400000#32
  | 4 => 0x42800000#32 | 5 => 0x42A00000#32 | 6 => 0x42C00000#32 | 7 => 0x42E00000#32

/-- The lanes' numbers as floats. -/
def lanes : FVec F S16 .f32 := sitofp .f32 (iota .scVector S16 32 [0] iota_S16_d0_w32_scVector)

/-- Channel 0: the sigmoid plus the lane's number, times the stride. -/
def doX (_ : Fin k0_t1_loop.trips) (c : Fin 8) (x : FVec F S16 .f32) : FVec F S16 .f32 :=
  mulf (addf (sig16 x) (addf lanes (broadcast S16 (Scalar.ofBits .f32 (laneWord c))))) (broadcast S16 (Scalar.ofBits .f32 0x41000000#32))

/-- The trip's counter as a word, and its floor remainder by sixteen, as a trip computes it: the row's number within its
    block of sixteen rows. -/
def rowWord (k : Fin k0_t1_loop.trips) : BitVec 32 :=
  let v : BitVec 32 := Scalar.addi 0#32 (Scalar.muli (Scf.iv 0#32 1#32 k) 1#32)
  let n : BitVec 32 := Scalar.select (Scalar.cmpi .eq 16#32 0#32) 1#32 16#32
  let r : BitVec 32 := Scalar.remsi v n
  Scalar.select (Scalar.andi (Scalar.xori (Scalar.cmpi .slt r 0#32) (Scalar.cmpi .slt n 0#32)) (Scalar.cmpi .ne r 0#32)) (Scalar.addi r n) r

theorem rowWord_eq : ∀ k, rowWord k = BitVec.ofNat 32 (k.val % 16) := by decide +kernel

/-- Channel 1: the sigmoid plus the row's number, times the stride (`y₀` is the block's first row). -/
def doY (y₀ : F .f32) (hl : BitVec 32) (x : FVec F S16 .f32) : FVec F S16 .f32 :=
  mulf (addf (sig16 x) (broadcast S16 (Scalar.addf y₀ (Scalar.sitofp .f32 hl)))) (broadcast S16 (Scalar.ofBits .f32 0x41000000#32))

/-- Channels 2 and 3: the exponential times the anchor's side. -/
def doE (s : F .f32) (x : FVec F S16 .f32) : FVec F S16 .f32 := mulf (exp x) (broadcast S16 s)

/-- Channel 4: the angle in degrees. -/
def doA (x : FVec F S16 .f32) : FVec F S16 .f32 :=
  subf (mulf (sig16 x) (broadcast S16 (Scalar.ofBits .f32 0x43B40000#32))) (broadcast S16 (Scalar.ofBits .f32 0x43340000#32))

/-! ## The trip and the loop -/

section Programs

variable (c : Fin τ.nSC) (s : Fin τ.nSub)
abbrev TProg := Prog (TpuEff nD τ sig (Elt F) Λ₀ (.scVector c s)) Unit

variable {c s}
variable (mi : Memref sig .scVector .vmem S8x16x128 .f32) (mo : Memref sig .scVector .vmem S16x8x128 .f32)

/-- One group: read it, read the target (the value is not used), store the work. -/
def group (oi oo : Fin 3 → Nat) (hi : ∀ a, oi a + S1x1x16.size a ≤ S8x16x128.size a) (ho : ∀ a, oo a + S1x1x16.size a ≤ S16x8x128.size a)
    (p : FVec F S16 .f32 → FVec F S16 .f32) (K : TProg (F := F) c s) : TProg (F := F) c s :=
  .op (.load mi (Rect.unit (s := S8x16x128) oi S1x1x16.size hi).toLoadRect (View.loadsAt_vmem h_S1x1x16)) fun x : Vec F S1x1x16 .f32 =>
    .op (.load mo (Rect.unit (s := S16x8x128) oo S1x1x16.size ho).toLoadRect (View.loadsAt_vmem h_S1x1x16)) fun _ =>
      .op (.store mo (Rect.unit (s := S16x8x128) oo S1x1x16.size ho)
        (shapeCast S1x1x16 (p (shapeCast S16 x shapeCasts_S1x1x16_S16)) shapeCasts_S16_S1x1x16 : FVec F S1x1x16 .f32) Finset.univ
        (View.stores_vmem_bits_univ h_S1x1x16 rfl) (.inl rfl)) fun _ => K

/-- One trip. -/
def trip (p : Fin k0_t1_loop.trips → Fin 8 → FVec F S16 .f32 → FVec F S16 .f32) (k : Fin k0_t1_loop.trips) : TProg (F := F) c s :=
  group mi mo (k0_off2 k) (k0_off3 k) (k0_off2_inb k) (k0_off3_inb k) (p k 0) <|
  group mi mo (k0_off4 k) (k0_off5 k) (k0_off4_inb k) (k0_off5_inb k) (p k 1) <|
  group mi mo (k0_off6 k) (k0_off7 k) (k0_off6_inb k) (k0_off7_inb k) (p k 2) <|
  group mi mo (k0_off8 k) (k0_off9 k) (k0_off8_inb k) (k0_off9_inb k) (p k 3) <|
  group mi mo (k0_off10 k) (k0_off11 k) (k0_off10_inb k) (k0_off11_inb k) (p k 4) <|
  group mi mo (k0_off12 k) (k0_off13 k) (k0_off12_inb k) (k0_off13_inb k) (p k 5) <|
  group mi mo (k0_off14 k) (k0_off15 k) (k0_off14_inb k) (k0_off15_inb k) (p k 6) <|
  group mi mo (k0_off16 k) (k0_off17 k) (k0_off16_inb k) (k0_off17_inb k) (p k 7) <| .ret ()

/-- The loop of an item. -/
def itemLoop (p : Fin k0_t1_loop.trips → Fin 8 → FVec F S16 .f32 → FVec F S16 .f32) : TProg (F := F) c s :=
  Scf.Loop.for k0_t1_loop k0_t1_ok () fun k _ => trip mi mo p k

end Programs

section Loops
variable (i : grid0.Coords) (arg2 : Memref sig .scVector .hbm S4x8x15x128x128 .f32) (harg2 : arg2.IsWhole) (arg3 : Memref sig .scVector .hbm S5x4x384x8x128 .f32) (harg3 : arg3.IsWhole) (arg4 : Memref sig .scVector .vmem S8x16x128 .f32) (harg4 : arg4.IsWhole) (arg5 : Memref sig .scVector .vmem S8x16x128 .f32) (harg5 : arg5.IsWhole) (arg6 : Memref sig .scVector .vmem S8x16x128 .f32) (harg6 : arg6.IsWhole) (arg7 : Memref sig .scVector .vmem S16x8x128 .f32) (harg7 : arg7.IsWhole) (arg8 : Memref sig .scVector .vmem S16x8x128 .f32) (harg8 : arg8.IsWhole) (arg9 : Memref sig .scVector .vmem S16x8x128 .f32) (harg9 : arg9.IsWhole) (arg10 arg11 arg12 arg13 arg14 arg15 : DmaSems sig S_)

theorem loop1_eq (a b c d : BitVec 32) :
    Scf.Loop.for k0_t1_loop k0_t1_ok () (k0_t1_body i arg2 harg2 arg3 harg3 arg4 harg4 arg5 harg5 arg6 harg6 arg7 harg7 arg8 harg8 arg9 harg9 arg10 arg11 arg12 arg13 arg14 arg15 a (lanes (F := F)) b c d)
      = itemLoop arg4 arg7 doX := rfl

theorem loop2_eq (a b c : BitVec 32) (y₀ : F .f32) :
    Scf.Loop.for k0_t2_loop k0_t2_ok () (k0_t2_body i arg2 harg2 arg3 harg3 arg4 harg4 arg5 harg5 arg6 harg6 arg7 harg7 arg8 harg8 arg9 harg9 arg10 arg11 arg12 arg13 arg14 arg15 a b c y₀)
      = itemLoop arg5 arg8 (fun k _ => doY y₀ (rowWord k)) := rfl

theorem loop3_eq (a b c : BitVec 32) (s t : F .f32) :
    Scf.Loop.for k0_t3_loop k0_t3_ok () (k0_t3_body i arg2 harg2 arg3 harg3 arg4 harg4 arg5 harg5 arg6 harg6 arg7 harg7 arg8 harg8 arg9 harg9 arg10 arg11 arg12 arg13 arg14 arg15 a b c s t 0#32 128#32)
      = itemLoop arg6 arg9 (fun _ _ => doE s) := rfl

theorem loop4_eq (a b c : BitVec 32) (d e : BitVec 1) (s t : F .f32) :
    Scf.Loop.for k0_t4_loop k0_t4_ok () (k0_t4_body i arg2 harg2 arg3 harg3 arg4 harg4 arg5 harg5 arg6 harg6 arg7 harg7 arg8 harg8 arg9 harg9 arg10 arg11 arg12 arg13 arg14 arg15 a b c d e s t)
      = itemLoop arg4 arg7 (fun _ _ => doE (k0_pay151 d e s t)) := rfl

theorem loop5_eq (a b c : BitVec 32) (d : BitVec 1) (s : F .f32) :
    Scf.Loop.for k0_t5_loop k0_t5_ok () (k0_t5_body i arg2 harg2 arg3 harg3 arg4 harg4 arg5 harg5 arg6 harg6 arg7 harg7 arg8 harg8 arg9 harg9 arg10 arg11 arg12 arg13 arg14 arg15 a b c d s)
      = itemLoop arg5 arg8 (fun _ _ => doA) := rfl

theorem loop6_eq (a b c d e : BitVec 32) :
    Scf.Loop.for k0_t6_loop k0_t6_ok () (k0_t6_body i arg2 harg2 arg3 harg3 arg4 harg4 arg5 harg5 arg6 harg6 arg7 harg7 arg8 harg8 arg9 harg9 arg10 arg11 arg12 arg13 arg14 arg15 a (lanes (F := F)) b c d e)
      = itemLoop arg6 arg9 doX := rfl

theorem loop7_eq (a b c d : BitVec 32) (e f : BitVec 1) (g : BitVec 32) :
    Scf.Loop.for k0_t7_loop k0_t7_ok () (k0_t7_body i arg2 harg2 arg3 harg3 arg4 harg4 arg5 harg5 arg6 harg6 arg7 harg7 arg8 harg8 arg9 harg9 arg10 arg11 arg12 arg13 arg14 arg15 a b c d e f g)
      = itemLoop arg4 arg7 (fun k _ => doY (F := F) (k0_pay164 c d e f g) (rowWord k)) := rfl

theorem loop8_eq (a b c : BitVec 32) (d : BitVec 1) :
    Scf.Loop.for k0_t8_loop k0_t8_ok () (k0_t8_body i arg2 harg2 arg3 harg3 arg4 harg4 arg5 harg5 arg6 harg6 arg7 harg7 arg8 harg8 arg9 harg9 arg10 arg11 arg12 arg13 arg14 arg15 a b c d)
      = itemLoop arg5 arg8 (fun _ _ => doE (F := F) (k0_pay166 b)) := rfl

theorem loop9_eq (a b : BitVec 32) (c : BitVec 1) (d e : BitVec 32) :
    Scf.Loop.for k0_t9_loop k0_t9_ok () (k0_t9_body i arg2 harg2 arg3 harg3 arg4 harg4 arg5 harg5 arg6 harg6 arg7 harg7 arg8 harg8 arg9 harg9 arg10 arg11 arg12 arg13 arg14 arg15 a b c d e)
      = itemLoop arg6 arg9 (fun _ _ => doE (F := F) (k0_pay172 b c d e)) := rfl

theorem loop10_eq (a b c d : BitVec 32) (e : BitVec 1) :
    Scf.Loop.for k0_t10_loop k0_t10_ok () (k0_t10_body i arg2 harg2 arg3 harg3 arg4 harg4 arg5 harg5 arg6 harg6 arg7 harg7 arg8 harg8 arg9 harg9 arg10 arg11 arg12 arg13 arg14 arg15 a b c d e)
      = itemLoop arg4 arg7 (fun _ _ => doA (F := F)) := rfl

theorem loop11_eq (a b c d : BitVec 32) :
    Scf.Loop.for k0_t11_loop k0_t11_ok () (k0_t11_body i arg2 harg2 arg3 harg3 arg4 harg4 arg5 harg5 arg6 harg6 arg7 harg7 arg8 harg8 arg9 harg9 arg10 arg11 arg12 arg13 arg14 arg15 a (lanes (F := F)) b c d)
      = itemLoop arg5 arg8 doX := rfl

theorem loop12_eq (a b c : BitVec 32) (d : BitVec 1) :
    Scf.Loop.for k0_t12_loop k0_t12_ok () (k0_t12_body i arg2 harg2 arg3 harg3 arg4 harg4 arg5 harg5 arg6 harg6 arg7 harg7 arg8 harg8 arg9 harg9 arg10 arg11 arg12 arg13 arg14 arg15 a b c d)
      = itemLoop arg6 arg9 (fun k _ => doY (F := F) (k0_pay184 c) (rowWord k)) := rfl

theorem loop13_eq (a b c : BitVec 32) (d : BitVec 1) (e : BitVec 32) :
    Scf.Loop.for k0_t13_loop k0_t13_ok () (k0_t13_body i arg2 harg2 arg3 harg3 arg4 harg4 arg5 harg5 arg6 harg6 arg7 harg7 arg8 harg8 arg9 harg9 arg10 arg11 arg12 arg13 arg14 arg15 a b c d e)
      = itemLoop arg4 arg7 (fun _ _ => doE (F := F) (k0_pay186 b d e)) := rfl

theorem loop14_eq (a b : BitVec 32) (c : BitVec 1) (d : BitVec 32) :
    Scf.Loop.for k0_t14_loop k0_t14_ok () (k0_t14_body i arg2 harg2 arg3 harg3 arg4 harg4 arg5 harg5 arg6 harg6 arg7 harg7 arg8 harg8 arg9 harg9 arg10 arg11 arg12 arg13 arg14 arg15 a b c d)
      = itemLoop arg5 arg8 (fun _ _ => doE (F := F) (k0_pay192 b c d)) := rfl

theorem loop15_eq (a b : BitVec 32) (c d : BitVec 1) (s : F .f32) :
    Scf.Loop.for k0_t15_loop k0_t15_ok () (k0_t15_body i arg2 harg2 arg3 harg3 arg4 harg4 arg5 harg5 arg6 harg6 arg7 harg7 arg8 harg8 arg9 harg9 arg10 arg11 arg12 arg13 arg14 arg15 a b c d s)
      = itemLoop arg6 arg9 (fun _ _ => doA) := rfl

end Loops

end Cert.Proof

end
-- ==== Proof.Setup.lean ====
/- The launch as the SparseCore launch theorem sees it: the call's configuration, the definitions the TensorCore's region
   adds, the resource algebra (the handshakes' rounds beside the local copies' counters), and short names for the
   arrays. -/
module

public import proofs.«01_k».proof.Proof.Trip
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × UP × Counters

/-- The model's resources. -/
abbrev MM (F : FTy → Type) := MT nD τ sig (HIx 1) (Elt F) ℕ UU ℕ

/-- The handshakes' rounds, on the left; the copies' counters are found on the right. -/
abbrev EH : Emb UH (MM F) := embL

/-- The rounds of the TensorCore's pipeline, in the middle. -/
abbrev EP : Emb UP (MM F) := (Emb.inl : Emb UP (UP × Counters)).trans embR

end Cert.Proof

end
-- ==== Proof.Loop.lean ====
/- The loop of an item, run once for any two whole buffers and any lanewise work. -/
module

public import proofs.«01_k».proof.Proof.Setup
public import Idealize.ShloMosaic.Lib.Pipeline.Value
public import Idealize.ShloMosaic.Lib.ValueIdxCore
public import Idealize.ShloMosaic.Lib.Writes

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx

/-- The trip's counter is below 128. -/
theorem trip_lt (k : Fin k0_t1_loop.trips) : k.val < 128 := Nat.lt_of_lt_of_eq k.isLt (by decide)

/-- Where trip `k`'s group `c` puts lane `l`: row `k % 16` of the block, slab `k / 16`, lane `16 c + l`. -/
def place (k : Fin k0_t1_loop.trips) (c : Fin 8) (l : Fin 16) : S16x8x128.Idx :=
  ix3 (n0 := 16) (n1 := 8) (n2 := 128) ⟨k.val % 16, by omega⟩ ⟨k.val / 16, by have := trip_lt k; omega⟩ ⟨16 * c.val + l.val, by omega⟩

/-- The element of the input buffer an element of the output buffer is made from: the first two coordinates exchanged. -/
def swap (y : S16x8x128.Idx) : S8x16x128.Idx := ix3 (n0 := 8) (n1 := 16) (n2 := 128) (y 1) (y 0) (y 2)

/-- What the loop leaves, element by element. -/
def work (g : S16x8x128.Idx → F .f32 → F .f32) (X : S8x16x128.Idx → F .f32) (y : S16x8x128.Idx) : F .f32 := g y (X (swap y))

/-- The work of a trip is the elementwise function `g`. -/
def Lanewise (p : Fin k0_t1_loop.trips → Fin 8 → FVec F S16 .f32 → FVec F S16 .f32) (g : S16x8x128.Idx → F .f32 → F .f32) : Prop :=
  ∀ k c (x : FVec F S16 .f32) (l : S16.Idx), p k c x l = g (place k c (l 0)) (x l)

theorem in_off_eq : ∀ k : Fin k0_t1_loop.trips, k0_off2 k = ![k.val / 16, k.val % 16, 0] ∧ k0_off4 k = ![k.val / 16, k.val % 16, 16]
    ∧ k0_off6 k = ![k.val / 16, k.val % 16, 32] ∧ k0_off8 k = ![k.val / 16, k.val % 16, 48] ∧ k0_off10 k = ![k.val / 16, k.val % 16, 64]
    ∧ k0_off12 k = ![k.val / 16, k.val % 16, 80] ∧ k0_off14 k = ![k.val / 16, k.val % 16, 96] ∧ k0_off16 k = ![k.val / 16, k.val % 16, 112] := by
  decide +kernel

theorem out_off_eq : ∀ k : Fin k0_t1_loop.trips, k0_off3 k = ![k.val % 16, k.val / 16, 0] ∧ k0_off5 k = ![k.val % 16, k.val / 16, 16]
    ∧ k0_off7 k = ![k.val % 16, k.val / 16, 32] ∧ k0_off9 k = ![k.val % 16, k.val / 16, 48] ∧ k0_off11 k = ![k.val % 16, k.val / 16, 64]
    ∧ k0_off13 k = ![k.val % 16, k.val / 16, 80] ∧ k0_off15 k = ![k.val % 16, k.val / 16, 96] ∧ k0_off17 k = ![k.val % 16, k.val / 16, 112] := by
  decide +kernel

variable (d : Dev nD) (c : Fin τ.nSC) (s : Fin τ.nSub)
variable (mi : Memref sig .scVector .vmem S8x16x128 .f32) (mo : Memref sig .scVector .vmem S16x8x128 .f32)
variable {p : Fin k0_t1_loop.trips → Fin 8 → FVec F S16 .f32 → FVec F S16 .f32} {g : S16x8x128.Idx → F .f32 → F .f32}

/-- What group `c` of trip `k` stores is the work at the elements it stores to. -/
theorem stored_eq (hp : Lanewise p g) (k : Fin k0_t1_loop.trips) (c : Fin 8) {oi oo : Fin 3 → Nat}
    (hoi : oi = ![k.val / 16, k.val % 16, 16 * c.val]) (hoo : oo = ![k.val % 16, k.val / 16, 16 * c.val])
    (hi : ∀ a, oi a + S1x1x16.size a ≤ S8x16x128.size a) (ho : ∀ a, oo a + S1x1x16.size a ≤ S16x8x128.size a)
    (A : mi.view.ty.Contents (Elt F)) (x : S1x1x16.Idx) :
    (shapeCast S1x1x16 (p k c (shapeCast S16 (mi.view.readAt (Elt F) (Rect.unit (s := S8x16x128) oi S1x1x16.size hi).toLoadRect A) shapeCasts_S1x1x16_S16))
      shapeCasts_S16_S1x1x16 : FVec F S1x1x16 .f32) x
      = work g (mi.view.read (Elt F) A) ((Rect.unit (s := S16x8x128) oo S1x1x16.size ho).emb x) := by
  subst hoi hoo
  have h0 : (x 0).val = 0 := by have : (x 0).val < 1 := (x 0).isLt; omega
  have h1 : (x 1).val = 0 := by have : (x 1).val < 1 := (x 1).isLt; omega
  rw [shapeCast_apply _ _ x (ix1 (x 2) : S16.Idx)
    (by rw [Shape.rowMajor_val_one, Shape.rowMajor_val_three]; simp [h0, h1]), hp,
    shapeCast_apply _ _ (ix1 (x 2) : S16.Idx) x
    (by rw [Shape.rowMajor_val_one, Shape.rowMajor_val_three]; simp [h0, h1])]
  unfold work
  rw [View.readAt_apply]
  have hy : place k c (x 2) = (Rect.unit (s := S16x8x128) ![k.val % 16, k.val / 16, 16 * c.val] S1x1x16.size ho).emb x := by
    funext a; apply Fin.ext
    match a with
    | ⟨0, _⟩ => show k.val % 16 = k.val % 16 + 1 * (x 0).val; omega
    | ⟨1, _⟩ => show k.val / 16 = k.val / 16 + 1 * (x 1).val; omega
    | ⟨2, _⟩ => show 16 * c.val + (x 2).val = 16 * c.val + 1 * (x 2).val; omega
  show g (place k c (x 2)) _ = _
  rw [hy]
  congr 2
  funext a; apply Fin.ext
  match a with
  | ⟨0, _⟩ => show k.val / 16 + 1 * (x 0).val = k.val / 16 + 1 * (x 1).val; omega
  | ⟨1, _⟩ => show k.val % 16 + 1 * (x 1).val = k.val % 16 + 1 * (x 0).val; omega
  | ⟨2, _⟩ => rfl

/-- Before trip `k`: the rows done so far hold the work. -/
def Done (g : S16x8x128.Idx → F .f32 → F .f32) (A : mi.view.ty.Contents (Elt F)) (k : Nat) (B : mo.view.ty.Contents (Elt F)) : Prop :=
  ∀ y : S16x8x128.Idx, (y 1).val * 16 + (y 0).val < k → mo.view.read (Elt F) B y = work g (mi.view.read (Elt F) A) y

/-- Eight stores at the trip's row, each agreeing with the work, extend the rows done by one. -/
theorem done_writes {A : mi.view.ty.Contents (Elt F)} {B : mo.view.ty.Contents (Elt F)} (k : Fin k0_t1_loop.trips) (hB : Done mi mo g A k.val B)
    (L : List (View.Piece (Elt F) S16x8x128 .f32))
    (hL : ∀ q ∈ L, ∀ x, q.2 x = work g (mi.view.read (Elt F) A) (q.1.emb x))
    (hrow : ∀ q ∈ L, ∀ y ∈ q.1.set, (y 0).val = k.val % 16 ∧ (y 1).val = k.val / 16)
    (hcov : ∀ y : S16x8x128.Idx, (y 0).val = k.val % 16 → (y 1).val = k.val / 16 → ∃ q ∈ L, y ∈ q.1.set) :
    Done mi mo g A (k.val + 1) (mo.view.writes (Elt F) B L) := by
  intro y hy
  have y0 : (y 0).val < 16 := (y 0).isLt
  by_cases h : ∃ q ∈ L, y ∈ q.1.set
  · exact View.read_writes_apply_of_pieces mo.view B _ L hL y h
  · have h' : ∀ q ∈ L, y ∉ q.1.set := fun q hq hm => h ⟨q, hq, hm⟩
    rw [View.read_writes_apply_of_forall_not_mem mo.view B y L h']
    apply hB
    by_contra hlt
    exact h (hcov y (by omega) (by omega))

theorem wp_trip (hp : Lanewise p g) (k : Fin k0_t1_loop.trips)
   (A : Buf (Elt F) (mi.view.loc (V d c s))) (B : Buf (Elt F) (mo.view.loc (V d c s))) (hB : Done mi mo g A k.val B) :
   iprop((mi.view.loc (V d c s) ↦{fullShare} A) ∗ (mo.view.loc (V d c s) ↦{fullShare} B))
     ⊢ (wp frame (wpE (defs₀ (F := F)) 𝒱₀ (V d c s) none) Set.univ (trip (F := F) mi mo p k)
       fun _ => iprop((mi.view.loc (V d c s) ↦{fullShare} A) ∗ ∃ B', (mo.view.loc (V d c s) ↦{fullShare} B') ∗ ⌜Done mi mo g A (k.val + 1) B'⌝) : sProp (MM F)) := by
  unfold trip group
  iintro ⟨HA, HB⟩
  sl_exec
  sl_step
  isplitl [HA]; · iexact HA
  iexists _; isplitl [HB]; · iexact HB
  ipureintro
  obtain ⟨i0, i1, i2, i3, i4, i5, i6, i7⟩ := in_off_eq k
  obtain ⟨o0, o1, o2, o3, o4, o5, o6, o7⟩ := out_off_eq k
  refine done_writes mi mo k hB _ ?_ ?_ ?_
  · simp only [List.forall_mem_cons, List.not_mem_nil, false_imp_iff, implies_true, and_true]
    exact ⟨stored_eq mi hp k 7 i7 o7 _ _ A, stored_eq mi hp k 6 i6 o6 _ _ A, stored_eq mi hp k 5 i5 o5 _ _ A, stored_eq mi hp k 4 i4 o4 _ _ A,
      stored_eq mi hp k 3 i3 o3 _ _ A, stored_eq mi hp k 2 i2 o2 _ _ A, stored_eq mi hp k 1 i1 o1 _ _ A, stored_eq mi hp k 0 i0 o0 _ _ A⟩
  · have one : ∀ {oo : Fin 3 → Nat} (c : Nat) (_ : oo = ![k.val % 16, k.val / 16, c]) (ho) (y : S16x8x128.Idx),
        y ∈ (Rect.unit (s := S16x8x128) oo S1x1x16.size ho).set → (y 0).val = k.val % 16 ∧ (y 1).val = k.val / 16 := by
      rintro _ c rfl ho y hy
      have := Rect.mem_set_unit.mp hy
      have a0 : k.val % 16 ≤ (y 0).val ∧ (y 0).val < k.val % 16 + 1 := this 0
      have a1 : k.val / 16 ≤ (y 1).val ∧ (y 1).val < k.val / 16 + 1 := this 1
      omega
    simp only [List.forall_mem_cons, List.not_mem_nil, false_imp_iff, implies_true, and_true]
    exact ⟨one _ o7 _, one _ o6 _, one _ o5 _, one _ o4 _, one _ o3 _, one _ o2 _, one _ o1 _, one _ o0 _⟩
  · intro y h0 h1
    have y2 : (y 2).val < 128 := (y 2).isLt
    have one : ∀ {oo : Fin 3 → Nat} (c : Nat) (_ : oo = ![k.val % 16, k.val / 16, c]) (ho), c ≤ (y 2).val → (y 2).val < c + 16 →
        y ∈ (Rect.unit (s := S16x8x128) oo S1x1x16.size ho).set := by
      rintro _ c rfl ho hlo hhi
      refine Rect.mem_set_unit.mpr fun a => ?_
      match a with
      | ⟨0, _⟩ => show k.val % 16 ≤ (y 0).val ∧ (y 0).val < k.val % 16 + 1; omega
      | ⟨1, _⟩ => show k.val / 16 ≤ (y 1).val ∧ (y 1).val < k.val / 16 + 1; omega
      | ⟨2, _⟩ => exact ⟨hlo, hhi⟩
    simp only [List.exists_mem_cons_iff, List.not_mem_nil, false_and, exists_false, or_false]
    have : (y 2).val / 16 < 8 := by omega
    rcases (by omega : (y 2).val / 16 = 0 ∨ (y 2).val / 16 = 1 ∨ (y 2).val / 16 = 2 ∨ (y 2).val / 16 = 3 ∨ (y 2).val / 16 = 4
        ∨ (y 2).val / 16 = 5 ∨ (y 2).val / 16 = 6 ∨ (y 2).val / 16 = 7) with h | h | h | h | h | h | h | h
    · exact .inr <| .inr <| .inr <| .inr <| .inr <| .inr <| .inr <| one 0 o0 _ (by omega) (by omega)
    · exact .inr <| .inr <| .inr <| .inr <| .inr <| .inr <| .inl <| one 16 o1 _ (by omega) (by omega)
    · exact .inr <| .inr <| .inr <| .inr <| .inr <| .inl <| one 32 o2 _ (by omega) (by omega)
    · exact .inr <| .inr <| .inr <| .inr <| .inl <| one 48 o3 _ (by omega) (by omega)
    · exact .inr <| .inr <| .inr <| .inl <| one 64 o4 _ (by omega) (by omega)
    · exact .inr <| .inr <| .inl <| one 80 o5 _ (by omega) (by omega)
    · exact .inr <| .inl <| one 96 o6 _ (by omega) (by omega)
    · exact .inl <| one 112 o7 _ (by omega) (by omega)

/-- The loop before trip `k`. -/
def loopInv (g : S16x8x128.Idx → F .f32 → F .f32) (A : Buf (Elt F) (mi.view.loc (V d c s))) (k : Nat) (_ : Unit) : sProp (MM F) :=
  iprop((mi.view.loc (V d c s) ↦{fullShare} A) ∗ ∃ B, (mo.view.loc (V d c s) ↦{fullShare} B) ∗ ⌜Done mi mo g A k B⌝)

/-- A program that is an item's loop, followed by anything: the input buffer as it was, the output buffer reading as the
    work. -/
theorem wp_item {prog : TProg (F := F) c s} (h : prog = itemLoop mi mo p) (hp : Lanewise p g)
    (A : Buf (Elt F) (mi.view.loc (V d c s))) (B : Buf (Elt F) (mo.view.loc (V d c s)))
    {β : Type} {kk : Unit → Prog (TpuEff nD τ sig (Elt F) Λ₀ (.scVector c s)) β} {Q : β → sProp (MM F)} :
    iprop((mi.view.loc (V d c s) ↦{fullShare} A) ∗ (mo.view.loc (V d c s) ↦{fullShare} B))
      ⊢ iprop((∀ B', ⌜mo.view.read (Elt F) B' = work g (mi.view.read (Elt F) A)⌝ -∗ (mi.view.loc (V d c s) ↦{fullShare} A)
            -∗ (mo.view.loc (V d c s) ↦{fullShare} B') -∗ wp frame (wpE (defs₀ (F := F)) 𝒱₀ (V d c s) none) Set.univ (kk ()) Q)
          -∗ wp frame (wpE (defs₀ (F := F)) 𝒱₀ (V d c s) none) Set.univ (prog >>= kk) Q) := by
  subst h
  unfold itemLoop
  iintro ⟨HA, HB⟩ Hk
  sl_for (loopInv d c s mi mo g A) $$ [HA HB]
  case region =>
    intro k _
    unfold loopInv
    iintro ⟨HA, %B, HB, %hB⟩
    iapply (wp_trip d c s mi mo hp k A B hB)
    isplitl [HA] <;> iassumption
  · unfold loopInv
    isplitl [HA]; · iexact HA
    iexists B; isplitl [HB]; · iexact HB
    ipureintro; intro y hy; exact absurd hy (Nat.not_lt_zero _)
  iintro %_ HI
  unfold loopInv
  icases HI with ⟨HA, %B', HB, %hB⟩
  iapply Hk $$ [] [HA] [HB]
  · ipureintro; funext y
    refine hB y ?_
    have : (y 0).val < 16 := (y 0).isLt
    have : (y 1).val < 8 := (y 1).isLt
    show _ < k0_t1_loop.trips
    rw [show k0_t1_loop.trips = 128 by decide]; omega
  · iexact HA
  · iexact HB

end Cert.Proof

end
-- ==== Proof.Work.lean ====
/- What each channel does to one element, and that a trip's sixteen lanes do it. -/
module

public import proofs.«01_k».proof.Proof.Loop

@[expose] public section

noncomputable section

namespace Cert.Proof

open Cert.KernelIdeal Cert.KernelIdeal.Gen
open Idealize.ShloMosaic

variable {F : FTy → Type} [FloatOps F]

/-- The sigmoid of one element. -/
def sigF (x : F .f32) : F .f32 :=
  FloatOps.divf (Scalar.ofBits .f32 0x3F800000#32)
    (FloatOps.addf (Scalar.ofBits .f32 0x3F800000#32) (FloatOps.exp (FloatOps.subf (Scalar.ofBits .f32 0x00000000#32) x)))

/-- Channel 0 at one element: the lane's number is its last coordinate, taken as a multiple of sixteen and a rest. -/
def gX (y : S16x8x128.Idx) (x : F .f32) : F .f32 :=
  FloatOps.mulf (FloatOps.addf (sigF x) (FloatOps.addf (FloatOps.sitofp .f32 (BitVec.ofNat 32 ((y 2).val % 16)))
    (Scalar.ofBits .f32 (laneWord ⟨(y 2).val / 16, by have : (y 2).val < 128 := (y 2).isLt; omega⟩)))) (Scalar.ofBits .f32 0x41000000#32)

/-- Channel 1 at one element: the row's number within its block is the first coordinate. -/
def gY (y₀ : F .f32) (y : S16x8x128.Idx) (x : F .f32) : F .f32 :=
  FloatOps.mulf (FloatOps.addf (sigF x) (Scalar.addf y₀ (Scalar.sitofp .f32 (BitVec.ofNat 32 (y 0).val)))) (Scalar.ofBits .f32 0x41000000#32)

/-- Channels 2 and 3 at one element. -/
def gE (s : F .f32) (_ : S16x8x128.Idx) (x : F .f32) : F .f32 := FloatOps.mulf (FloatOps.exp x) s

/-- Channel 4 at one element. -/
def gA (_ : S16x8x128.Idx) (x : F .f32) : F .f32 :=
  FloatOps.subf (FloatOps.mulf (sigF x) (Scalar.ofBits .f32 0x43B40000#32)) (Scalar.ofBits .f32 0x43340000#32)

theorem lanes_apply (l : S16.Idx) : lanes (F := F) l = FloatOps.sitofp .f32 (BitVec.ofNat 32 (l 0).val) := by
  show FloatOps.sitofp .f32 (BitVec.ofNat 32 (0 * 16 + (l 0).val)) = _
  rw [Nat.zero_mul, Nat.zero_add]

theorem lanewise_X : Lanewise (F := F) doX gX := by
  intro k c x l
  have hl : (l 0).val < 16 := (l 0).isLt
  have e1 : (16 * c.val + (l 0).val) % 16 = (l 0).val := by omega
  have e2 : (16 * c.val + (l 0).val) / 16 = c.val := by omega
  have h1 : (place k c (l 0) 2).val % 16 = (l 0).val := e1
  have h2 : (⟨(place k c (l 0) 2).val / 16, by have : (place k c (l 0) 2).val < 128 := (place k c (l 0) 2).isLt; omega⟩ : Fin 8) = c := Fin.ext e2
  unfold gX
  rw [h1, h2, ← lanes_apply]
  rfl

theorem lanewise_Y {y₀ y₁ : F .f32} (h : y₀ = y₁) : Lanewise (F := F) (fun k _ => doY y₀ (rowWord k)) (gY y₁) := by
  subst h; intro k c x l
  show doY y₀ (rowWord k) x l = _
  rw [rowWord_eq]; rfl

theorem lanewise_E {s t : F .f32} (h : s = t) : Lanewise (F := F) (fun _ _ => doE s) (gE t) := by
  subst h; intro k c x l; rfl

theorem lanewise_A : Lanewise (F := F) (fun _ _ => doA) gA := by
  intro k c x l; rfl

/-- The anchor's width as a float word. -/
def widthWord : Nat → BitVec 32 | 0 => 0x41963EE0#32 | 1 => 0x41E7212D#32 | _ => 0x4242BD56#32
/-- The anchor's height as a float word. -/
def heightWord : Nat → BitVec 32 | 0 => 0x4205DD15#32 | 1 => 0x427703B0#32 | _ => 0x4288C787#32

/-- A choice of two literals is the literal of the chosen word. -/
theorem select_lit (b : BitVec 1) (x y : BitVec 32) :
    Scalar.select b (Scalar.ofBits .f32 x : F .f32) (Scalar.ofBits .f32 y) = Scalar.ofBits .f32 (Scalar.select b x y) := by
  unfold Scalar.select; split <;> rfl

/-! ## The deal of the work: which item of which tile computes what -/

/-- Tile `(c, s)`'s unit of work at turn `i`: the tiles are numbered `2 s + c`, each with three turns. -/
def unitOf (L : grid0.Coords) (i : Nat) : Nat := ((L 1).val * 2 + (L 0).val) * 3 + i

/-- The elementwise work of channel `ch` on unit `t`. -/
def chan (ch : Nat) (t : Nat) : S16x8x128.Idx → F .f32 → F .f32 :=
  match ch with
  | 0 => gX
  | 1 => gY (Scalar.sitofp .f32 (BitVec.ofNat 32 (t % 8 * 16)))
  | 2 => gE (Scalar.ofBits .f32 (widthWord (t % 24 / 8)))
  | 3 => gE (Scalar.ofBits .f32 (heightWord (t % 24 / 8)))
  | _ => gA

end Cert.Proof

end
-- ==== Proof.Deal.lean ====
/- Which blocks of the two arrays an item of a tile works on, and what the whole run leaves in the output array. -/
module

public import proofs.«01_k».proof.Proof.Work
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx

/-- The tile at the launch's coordinates, as a thread of the device. -/
abbrev Vt (d : Dev nD) (L : grid0.Coords) : Thread nD τ := V d ((L 0).castLE hcore0) ((L 1).castLE hsub0)

/-! ## Blocks -/

/-- The block of the input array at an offset, its unit axes dropped. -/
abbrev inSl (o : Fin 5 → Nat) (h : ∀ a, o a + S1x8x1x16x128.size a ≤ S4x8x15x128x128.size a) : Memref sig .scVector .hbm S8x16x128 .f32 :=
  ((Memref.whole main_v1_scv : Memref sig .scVector .hbm S4x8x15x128x128 .f32).slice (Rect.unit (s := S4x8x15x128x128) o S1x8x1x16x128.size h)
    (fun _ => rfl)).squeeze S8x16x128 squeezes_S1x8x1x16x128_S8x16x128

/-- The block of the output array at an offset, its unit axes dropped. -/
abbrev outSl (o : Fin 5 → Nat) (h : ∀ a, o a + S1x1x16x8x128.size a ≤ S5x4x384x8x128.size a) : Memref sig .scVector .hbm S16x8x128 .f32 :=
  ((Memref.whole main_v4_scv : Memref sig .scVector .hbm S5x4x384x8x128 .f32).slice (Rect.unit (s := S5x4x384x8x128) o S1x1x16x8x128.size h)
    (fun _ => rfl)).squeeze S16x8x128 squeezes_S1x1x16x8x128_S16x8x128

/-- A tile's hold of a block of the input array at contents `f` of the array. -/
abbrev inPts (d : Dev nD) (L : grid0.Coords) (f : S4x8x15x128x128.Idx → F .f32) (o : Fin 5 → Nat)
    (h : ∀ a, o a + S1x8x1x16x128.size a ≤ S4x8x15x128x128.size a) : sProp (MM F) :=
  (inSl o h).view.loc (Vt d L) ↦[(inSl o h).view.set]{fullShare} f

/-- A tile's hold of a block of the output array. -/
abbrev outPts (d : Dev nD) (L : grid0.Coords) (f : S5x4x384x8x128.Idx → F .f32) (o : Fin 5 → Nat)
    (h : ∀ a, o a + S1x1x16x8x128.size a ≤ S5x4x384x8x128.size a) : sProp (MM F) :=
  (outSl o h).view.loc (Vt d L) ↦[(outSl o h).view.set]{fullShare} f

theorem inPts_congr (d : Dev nD) (L : grid0.Coords) (f : S4x8x15x128x128.Idx → F .f32) {o o' : Fin 5 → Nat} (e : o = o') (h h') :
    inPts d L f o h = inPts d L f o' h' := by subst e; rfl

theorem outPts_congr (d : Dev nD) (L : grid0.Coords) (f : S5x4x384x8x128.Idx → F .f32) {o o' : Fin 5 → Nat} (e : o = o') (h h') :
    outPts d L f o h = outPts d L f o' h' := by subst e; rfl

/-! ## Offsets in closed form -/

/-- Where unit `t`'s block of channel `ch` starts in the input array. -/
def inO (t ch : Nat) : Fin 5 → Nat := ![t / 24, 0, t % 24 / 8 * 5 + ch, t % 8 * 16, 0]

/-- Where it starts in the output array. -/
def outO (t ch : Nat) : Fin 5 → Nat := ![ch, t / 24, t % 24 * 16, 0, 0]

theorem inO_inb {t ch : Nat} (ht : t < 96) (hc : ch < 5) : ∀ a, inO t ch a + S1x8x1x16x128.size a ≤ S4x8x15x128x128.size a
  | ⟨0, _⟩ => show t / 24 + 1 ≤ 4 by omega
  | ⟨1, _⟩ => show 0 + 8 ≤ 8 by omega
  | ⟨2, _⟩ => show t % 24 / 8 * 5 + ch + 1 ≤ 15 by omega
  | ⟨3, _⟩ => show t % 8 * 16 + 16 ≤ 128 by omega
  | ⟨4, _⟩ => show 0 + 128 ≤ 128 by omega

theorem outO_inb {t ch : Nat} (ht : t < 96) (hc : ch < 5) : ∀ a, outO t ch a + S1x1x16x8x128.size a ≤ S5x4x384x8x128.size a
  | ⟨0, _⟩ => show ch + 1 ≤ 5 by omega
  | ⟨1, _⟩ => show t / 24 + 1 ≤ 4 by omega
  | ⟨2, _⟩ => show t % 24 * 16 + 16 ≤ 384 by omega
  | ⟨3, _⟩ => show 0 + 8 ≤ 8 by omega
  | ⟨4, _⟩ => show 0 + 128 ≤ 128 by omega

theorem unitOf_lt (L : grid0.Coords) {i : Nat} (hi : i < 3) : unitOf L i < 96 := by
  have h0 : (L 0).val < 2 := (L 0).isLt
  have h1 : (L 1).val < 16 := (L 1).isLt
  unfold unitOf; omega

theorem in_at : ∀ (L : grid0.Coords) (i : Fin 3) (ch : Fin 5), k0_off1 L (BitVec.ofNat 32 i) (BitVec.ofNat 32 ch) = inO (unitOf L i) ch := by
  decide +kernel

theorem out_at : ∀ (L : grid0.Coords) (i : Fin 3), k0_off18 L (BitVec.ofNat 32 i) = outO (unitOf L i) 0
    ∧ k0_off35 L (BitVec.ofNat 32 i) = outO (unitOf L i) 1 ∧ k0_off52 L (BitVec.ofNat 32 i) = outO (unitOf L i) 2
    ∧ k0_off69 L (BitVec.ofNat 32 i) = outO (unitOf L i) 3 ∧ k0_off86 L (BitVec.ofNat 32 i) = outO (unitOf L i) 4 := by
  decide +kernel

/-! ## Where a block's elements lie -/

theorem inSl_emb {t ch : Nat} (h) (y : S8x16x128.Idx) {x : S4x8x15x128x128.Idx}
    (e : x = ix5 (n0 := 4) (n1 := 8) (n2 := 15) (n3 := 128) (n4 := 128) (x 0) (y 0) (x 2) (x 3) (y 2))
    (e0 : (x 0).val = t / 24) (e2 : (x 2).val = t % 24 / 8 * 5 + ch) (e3 : (x 3).val = t % 8 * 16 + (y 1).val) :
    (inSl (inO t ch) h).view.emb y = x := by
  have hy : y = ix3 (y 0) (y 1) (y 2) := by funext a; match a with | ⟨0, _⟩ => rfl | ⟨1, _⟩ => rfl | ⟨2, _⟩ => rfl
  have key : (inSl (inO t ch) h).view.emb y
      = (Rect.unit (s := S4x8x15x128x128) (inO t ch) S1x8x1x16x128.size h).emb (ix5 (0 : Fin 1) (y 0) (0 : Fin 1) (y 1) (y 2)) := by
    show (Rect.unit (s := S4x8x15x128x128) (inO t ch) S1x8x1x16x128.size h).emb (Shape.reshapeEquiv _ y) = _
    congr 1
    rw [hy]; exact reshapeEquiv_ix3_1a1bc _ _ _ _
  rw [key, e]
  funext a; apply Fin.ext
  match a with
  | ⟨0, _⟩ => show t / 24 + 1 * 0 = (x 0).val; omega
  | ⟨1, _⟩ => show 0 + 1 * (y 0).val = (y 0).val; omega
  | ⟨2, _⟩ => show t % 24 / 8 * 5 + ch + 1 * 0 = (x 2).val; omega
  | ⟨3, _⟩ => show t % 8 * 16 + 1 * (y 1).val = (x 3).val; omega
  | ⟨4, _⟩ => show 0 + 1 * (y 2).val = (y 2).val; omega

theorem outSl_emb {t ch : Nat} (h) (y : S16x8x128.Idx) :
    ((outSl (outO t ch) h).view.emb y 0).val = ch ∧ ((outSl (outO t ch) h).view.emb y 1).val = t / 24
      ∧ ((outSl (outO t ch) h).view.emb y 2).val = t % 24 * 16 + (y 0).val ∧ ((outSl (outO t ch) h).view.emb y 3).val = (y 1).val
      ∧ ((outSl (outO t ch) h).view.emb y 4).val = (y 2).val := by
  have hy : y = ix3 (y 0) (y 1) (y 2) := by funext a; match a with | ⟨0, _⟩ => rfl | ⟨1, _⟩ => rfl | ⟨2, _⟩ => rfl
  have key : (outSl (outO t ch) h).view.emb y
      = (Rect.unit (s := S5x4x384x8x128) (outO t ch) S1x1x16x8x128.size h).emb (ix5 (0 : Fin 1) (0 : Fin 1) (y 0) (y 1) (y 2)) := by
    show (Rect.unit (s := S5x4x384x8x128) (outO t ch) S1x1x16x8x128.size h).emb (Shape.reshapeEquiv _ y) = _
    congr 1
    rw [hy]; exact reshapeEquiv_ix3_11abc _ _ _ _
  rw [key]
  refine ⟨show ch + 1 * 0 = ch by omega, show t / 24 + 1 * 0 = t / 24 by omega, show t % 24 * 16 + 1 * (y 0).val = _ by omega,
    show 0 + 1 * (y 1).val = _ by omega, show 0 + 1 * (y 2).val = _ by omega⟩

/-! ## What the run leaves in the output array -/

/-- The input element an output element is made from. -/
def srcIdx (x : S5x4x384x8x128.Idx) : S4x8x15x128x128.Idx :=
  ix5 (n0 := 4) (n1 := 8) (n2 := 15) (n3 := 128) (n4 := 128) (x 1) (x 3)
    ⟨(x 2).val / 128 * 5 + (x 0).val, by have h2 : (x 2).val < 384 := (x 2).isLt; have h0 : (x 0).val < 5 := (x 0).isLt; omega⟩
    ⟨(x 2).val % 128, by omega⟩ (x 4)

/-- The place of an output element within its block. -/
def blkIdx (x : S5x4x384x8x128.Idx) : S16x8x128.Idx := ix3 (n0 := 16) (n1 := 8) (n2 := 128) ⟨(x 2).val % 16, by omega⟩ (x 3) (x 4)

/-- The output array after the run, from the input array. -/
def boxes (f : S4x8x15x128x128.Idx → F .f32) (x : S5x4x384x8x128.Idx) : F .f32 :=
  chan (x 0).val ((x 1).val * 24 + (x 2).val / 16) (blkIdx x) (f (srcIdx x))

/-- A block of the output array that reads as its item's work holds what the whole run leaves there. -/
theorem outPts_boxes (d : Dev nD) (L : grid0.Coords) (f : S4x8x15x128x128.Idx → F .f32) {t ch : Nat} {o o' : Fin 5 → Nat} (e : o = outO t ch)
    (e' : o' = inO t ch) (ht : t < 96) (hc : ch < 5) (h h') (B : S5x4x384x8x128.Idx → F .f32)
    (hB : (outSl o h).view.read (Elt F) B = work (chan ch t) ((inSl o' h').view.read (Elt F) f)) :
    outPts d L B o h = outPts d L (boxes f) (outO t ch) (outO_inb ht hc) := by
  subst e e'
  refine pointsTo_congr fun x hx => ?_
  obtain ⟨y, -, rfl⟩ := Finset.mem_map.mp hx
  have hr := congrFun hB y
  have e1 : (outSl (outO t ch) h).view.read (Elt F) B y = B ((outSl (outO t ch) h).view.emb y) := rfl
  rw [← e1, hr]
  obtain ⟨h0, h1, h2, h3, h4⟩ := outSl_emb h y
  have y0 : (y 0).val < 16 := (y 0).isLt
  generalize (outSl (outO t ch) h).view.emb y = x at h0 h1 h2 h3 h4
  have hs : (inSl (inO t ch) h').view.emb (swap y) = srcIdx x := by
    refine inSl_emb h' (swap y) ?_ ?_ ?_ ?_
    · funext a; apply Fin.ext
      match a with
      | ⟨0, _⟩ => rfl
      | ⟨1, _⟩ => exact h3
      | ⟨2, _⟩ => rfl
      | ⟨3, _⟩ => rfl
      | ⟨4, _⟩ => exact h4
    · exact h1
    · show (x 2).val / 128 * 5 + (x 0).val = _; omega
    · show (x 2).val % 128 = t % 8 * 16 + (y 0).val; omega
  have hb : blkIdx x = y := by
    funext a; apply Fin.ext
    match a with
    | ⟨0, _⟩ => show (x 2).val % 16 = (y 0).val; omega
    | ⟨1, _⟩ => exact h3
    | ⟨2, _⟩ => exact h4
  unfold boxes
  rw [hb, ← hs, h0, show (x 1).val * 24 + (x 2).val / 16 = t by omega]
  rfl

/-- The output block of an item after its copy: what its loop left in the output buffer, made from what its input
    block held. -/
theorem landed {o o' : Fin 5 → Nat} (h h') (f : S4x8x15x128x128.Idx → F .f32) (mi : Memref sig .scVector .vmem S8x16x128 .f32)
    (mo : Memref sig .scVector .vmem S16x8x128 .f32) {A r v w} {B : S5x4x384x8x128.Idx → F .f32} {g g' : S16x8x128.Idx → F .f32 → F .f32}
    (hr : mo.view.read (Elt F) r = work g (mi.view.read (Elt F) (mi.view.write (Elt F) A v Finset.univ)))
    (hg : g = g') (hv : v = (inSl o' h').view.read (Elt F) f) (hw : w = mo.view.read (Elt F) r) :
    (outSl o h).view.read (Elt F) ((outSl o h).view.writes (Elt F) B [⟨Rect.whole S16x8x128, w⟩])
      = work g' ((inSl o' h').view.read (Elt F) f) := by
  subst hg hv hw
  rw [View.read_writes_whole, hr, View.read_write_univ]

/-- So it holds what the whole run leaves there. -/
theorem settled (d : Dev nD) (L : grid0.Coords) (f : S4x8x15x128x128.Idx → F .f32) (t ch : Nat) (o o' : Fin 5 → Nat) (e : o = outO t ch)
    (e' : o' = inO t ch) (ht : t < 96) (hc : ch < 5) (h h') (w : S16x8x128.Idx → F .f32)
    (mi : Memref sig .scVector .vmem S8x16x128 .f32) (mo : Memref sig .scVector .vmem S16x8x128 .f32) {A r v} {g : S16x8x128.Idx → F .f32 → F .f32}
    (hr : mo.view.read (Elt F) r = work g (mi.view.read (Elt F) (mi.view.write (Elt F) A v Finset.univ)))
    (hg : g = chan ch t) (hv : v = (inSl o' h').view.read (Elt F) f) (hw : w = mo.view.read (Elt F) r) (B : S5x4x384x8x128.Idx → F .f32) :
    outPts d L ((outSl o h).view.writes (Elt F) B [⟨Rect.whole S16x8x128, w⟩]) o h = outPts d L (boxes f) (outO t ch) (outO_inb ht hc) :=
  outPts_boxes d L f e e' ht hc h h' _ (landed h h' f mi mo hr hg hv hw)

end Cert.Proof

end
-- ==== Proof.Tile.lean ====
/- One tile's run of the SparseCore kernel, with what it leaves. -/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

open Idealize.ShloMosaic.ValueIdx

/-! ## The items of a tile -/

/-- Item `n` of a tile is channel `n % 5` of the tile's turn `n / 5`: its block of the input array at contents `f`. -/
def itemIn (d : Dev nD) (L : grid0.Coords) (f : S4x8x15x128x128.Idx → F .f32) (n : Fin 15) : sProp (MM F) :=
  inPts d L f (inO (unitOf L (n.val / 5)) (n.val % 5)) (inO_inb (unitOf_lt L (by omega)) (by omega))

/-- Its block of the output array. -/
def itemOut (d : Dev nD) (L : grid0.Coords) (f : S5x4x384x8x128.Idx → F .f32) (n : Fin 15) : sProp (MM F) :=
  outPts d L f (outO (unitOf L (n.val / 5)) (n.val % 5)) (outO_inb (unitOf_lt L (by omega)) (by omega))

theorem items_split (Φ : Fin 15 → sProp (MM F)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem sep_eq {P P' R R' : sProp (MM F)} (h : P = P') (h' : R = R') : iprop(P ∗ R) = iprop(P' ∗ R') := by rw [h, h']

/-- The items' input blocks, at the offsets the program computes. -/
theorem ins_eq (d : Dev nD) (L : grid0.Coords) (f : S4x8x15x128x128.Idx → F .f32) : bigSep Finset.univ (itemIn d L f)
    = iprop(inPts d L f (k0_off1 L 0#32 0#32) (k0_off1_inb L 0 0)
      ∗ inPts d L f (k0_off1 L 0#32 1#32) (k0_off1_inb L 0 1)
      ∗ inPts d L f (k0_off1 L 0#32 2#32) (k0_off1_inb L 0 2)
      ∗ inPts d L f (k0_off1 L 0#32 3#32) (k0_off1_inb L 0 3)
      ∗ inPts d L f (k0_off1 L 0#32 4#32) (k0_off1_inb L 0 4)
      ∗ inPts d L f (k0_off1 L 1#32 0#32) (k0_off1_inb L 1 0)
      ∗ inPts d L f (k0_off1 L 1#32 1#32) (k0_off1_inb L 1 1)
      ∗ inPts d L f (k0_off1 L 1#32 2#32) (k0_off1_inb L 1 2)
      ∗ inPts d L f (k0_off1 L 1#32 3#32) (k0_off1_inb L 1 3)
      ∗ inPts d L f (k0_off1 L 1#32 4#32) (k0_off1_inb L 1 4)
      ∗ inPts d L f (k0_off1 L 2#32 0#32) (k0_off1_inb L 2 0)
      ∗ inPts d L f (k0_off1 L 2#32 1#32) (k0_off1_inb L 2 1)
      ∗ inPts d L f (k0_off1 L 2#32 2#32) (k0_off1_inb L 2 2)
      ∗ inPts d L f (k0_off1 L 2#32 3#32) (k0_off1_inb L 2 3)
      ∗ inPts d L f (k0_off1 L 2#32 4#32) (k0_off1_inb L 2 4)) := by
  rw [items_split]
  exact sep_eq (inPts_congr d L f (in_at L 0 0).symm _ _) <| sep_eq (inPts_congr d L f (in_at L 0 1).symm _ _) <| sep_eq (inPts_congr d L f (in_at L 0 2).symm _ _) <| sep_eq (inPts_congr d L f (in_at L 0 3).symm _ _) <| sep_eq (inPts_congr d L f (in_at L 0 4).symm _ _) <| sep_eq (inPts_congr d L f (in_at L 1 0).symm _ _) <| sep_eq (inPts_congr d L f (in_at L 1 1).symm _ _) <| sep_eq (inPts_congr d L f (in_at L 1 2).symm _ _) <| sep_eq (inPts_congr d L f (in_at L 1 3).symm _ _) <| sep_eq (inPts_congr d L f (in_at L 1 4).symm _ _) <| sep_eq (inPts_congr d L f (in_at L 2 0).symm _ _) <| sep_eq (inPts_congr d L f (in_at L 2 1).symm _ _) <| sep_eq (inPts_congr d L f (in_at L 2 2).symm _ _) <| sep_eq (inPts_congr d L f (in_at L 2 3).symm _ _) <| inPts_congr d L f (in_at L 2 4).symm _ _

/-- The items' output blocks, at the offsets the program computes. -/
theorem outs_eq (d : Dev nD) (L : grid0.Coords) (h : S5x4x384x8x128.Idx → F .f32) : bigSep Finset.univ (itemOut d L h)
    = iprop(outPts d L h (k0_off18 L 0#32) (k0_off18_inb L 0)
      ∗ outPts d L h (k0_off35 L 0#32) (k0_off35_inb L 0)
      ∗ outPts d L h (k0_off52 L 0#32) (k0_off52_inb L 0)
      ∗ outPts d L h (k0_off69 L 0#32) (k0_off69_inb L 0)
      ∗ outPts d L h (k0_off86 L 0#32) (k0_off86_inb L 0)
      ∗ outPts d L h (k0_off18 L 1#32) (k0_off18_inb L 1)
      ∗ outPts d L h (k0_off35 L 1#32) (k0_off35_inb L 1)
      ∗ outPts d L h (k0_off52 L 1#32) (k0_off52_inb L 1)
      ∗ outPts d L h (k0_off69 L 1#32) (k0_off69_inb L 1)
      ∗ outPts d L h (k0_off86 L 1#32) (k0_off86_inb L 1)
      ∗ outPts d L h (k0_off18 L 2#32) (k0_off18_inb L 2)
      ∗ outPts d L h (k0_off35 L 2#32) (k0_off35_inb L 2)
      ∗ outPts d L h (k0_off52 L 2#32) (k0_off52_inb L 2)
      ∗ outPts d L h (k0_off69 L 2#32) (k0_off69_inb L 2)
      ∗ outPts d L h (k0_off86 L 2#32) (k0_off86_inb L 2)) := by
  rw [items_split]
  exact sep_eq (outPts_congr d L h (out_at L 0).1.symm _ _) <| sep_eq (outPts_congr d L h (out_at L 0).2.1.symm _ _) <| sep_eq (outPts_congr d L h (out_at L 0).2.2.1.symm _ _) <| sep_eq (outPts_congr d L h (out_at L 0).2.2.2.1.symm _ _) <| sep_eq (outPts_congr d L h (out_at L 0).2.2.2.2.symm _ _) <| sep_eq (outPts_congr d L h (out_at L 1).1.symm _ _) <| sep_eq (outPts_congr d L h (out_at L 1).2.1.symm _ _) <| sep_eq (outPts_congr d L h (out_at L 1).2.2.1.symm _ _) <| sep_eq (outPts_congr d L h (out_at L 1).2.2.2.1.symm _ _) <| sep_eq (outPts_congr d L h (out_at L 1).2.2.2.2.symm _ _) <| sep_eq (outPts_congr d L h (out_at L 2).1.symm _ _) <| sep_eq (outPts_congr d L h (out_at L 2).2.1.symm _ _) <| sep_eq (outPts_congr d L h (out_at L 2).2.2.1.symm _ _) <| sep_eq (outPts_congr d L h (out_at L 2).2.2.2.1.symm _ _) <| outPts_congr d L h (out_at L 2).2.2.2.2.symm _ _

/-- A tile's six buffers, at any contents. -/
abbrev tileBufs (d : Dev nD) (L : grid0.Coords) : sProp (MM F) :=
  iprop((∃ b, (Memref.whole cc0_scratch0 : Memref sig .scVector .vmem S8x16x128 .f32).view.loc (Vt d L) ↦{fullShare} b)
    ∗ (∃ b, (Memref.whole cc0_scratch1 : Memref sig .scVector .vmem S8x16x128 .f32).view.loc (Vt d L) ↦{fullShare} b)
    ∗ (∃ b, (Memref.whole cc0_scratch2 : Memref sig .scVector .vmem S8x16x128 .f32).view.loc (Vt d L) ↦{fullShare} b)
    ∗ (∃ b, (Memref.whole cc0_scratch3 : Memref sig .scVector .vmem S16x8x128 .f32).view.loc (Vt d L) ↦{fullShare} b)
    ∗ (∃ b, (Memref.whole cc0_scratch4 : Memref sig .scVector .vmem S16x8x128 .f32).view.loc (Vt d L) ↦{fullShare} b)
    ∗ (∃ b, (Memref.whole cc0_scratch5 : Memref sig .scVector .vmem S16x8x128 .f32).view.loc (Vt d L) ↦{fullShare} b))

/-- A tile's six copy semaphores, at zero. -/
abbrev tileSems (d : Dev nD) (L : grid0.Coords) : sProp (MM F) :=
  iprop(semVal (Vt d L, SemLoc.dma cc0_scratch6.sem) 0
    ∗ semVal (Vt d L, SemLoc.dma cc0_scratch7.sem) 0
    ∗ semVal (Vt d L, SemLoc.dma cc0_scratch8.sem) 0
    ∗ semVal (Vt d L, SemLoc.dma cc0_scratch9.sem) 0
    ∗ semVal (Vt d L, SemLoc.dma cc0_scratch10.sem) 0
    ∗ semVal (Vt d L, SemLoc.dma cc0_scratch11.sem) 0)

/-- A literal chosen among three is the literal of the chosen word. -/
theorem pick_lit {b b' : BitVec 1} {x y z w : BitVec 32} (h : Scalar.select b x (Scalar.select b' y z) = w) :
    Scalar.select b (Scalar.ofBits .f32 x : F .f32) (Scalar.select b' (Scalar.ofBits .f32 y) (Scalar.ofBits .f32 z)) = Scalar.ofBits .f32 w := by
  rw [select_lit, select_lit, h]

/-- Waits recorded at no level stay so. -/
theorem waits_insert {W W' : Waits sig (HIx 1)} {a : SemLoc sig} (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

set_option maxHeartbeats 4000000 in
/-- The tile's whole run: the fifteen items, each fetched, worked on and written out; the output blocks hold what the
    run is to leave there. -/
theorem tile_run (d : Dev nD) (L : grid0.Coords) (f : S4x8x15x128x128.Idx → F .f32) (h : S5x4x384x8x128.Idx → F .f32)
    (O : CellTallies nD τ sig (HIx 1)) (W : Waits sig (HIx 1)) :
    (iprop(Transfers.MayWaits (Vt d L) (none : HIx 1) O ∗ bigSep Finset.univ (itemIn d L f) ∗ bigSep Finset.univ (itemOut d L h)
      ∗ tileBufs d L ∗ tileSems d L ∗ owes (Vt d L) O W) : sProp (MM F))
    ⊢ wp frame (wpE (defs₀ (F := F)) 𝒱₀ (Vt d L) none) Set.univ
          (cc0__sc_body L (Memref.whole main_v1_scv) (Memref.isWhole_whole _) (Memref.whole main_v4_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11)
          fun _ => iprop(bigSep Finset.univ (itemIn d L f) ∗ bigSep Finset.univ (itemOut d L (boxes f)) ∗ tileBufs d L ∗ tileSems d L
            ∗ ∃ W', ⌜∀ p ∈ W', p ∈ W ∨ p.2 = none⌝ ∗ owes (Vt d L) O W') := by
  rw [cc0__sc_body_eq_skeleton]; unfold cc0__sc_body_skel
  rw [ins_eq, outs_eq d L h, items_split (itemOut d L (boxes f))]
  iintro ⟨Hmw, ⟨Hi0, Hi1, Hi2, Hi3, Hi4, Hi5, Hi6, Hi7, Hi8, Hi9, Hi10, Hi11, Hi12, Hi13, Hi14⟩,
    ⟨Ho0, Ho1, Ho2, Ho3, Ho4, Ho5, Ho6, Ho7, Ho8, Ho9, Ho10, Ho11, Ho12, Ho13, Ho14⟩,
    ⟨⟨%b0, Hb0⟩, ⟨%b1, Hb1⟩, ⟨%b2, Hb2⟩, ⟨%e0, He0⟩, ⟨%e1, He1⟩, ⟨%e2, He2⟩⟩, ⟨Hs0, Hs1, Hs2, Hs3, Hs4, Hs5⟩, HO⟩
  sl_exec
  iapply (wp_item d _ _ (Memref.whole cc0_scratch0) (Memref.whole cc0_scratch3) (loop1_eq ..) lanewise_X _ _) $$ [Hb0 He0]
  · isplitl [Hb0] <;> iassumption
  iintro %r0 %hr0 Hb0 He0
  sl_exec
  iapply (wp_item d _ _ (Memref.whole cc0_scratch1) (Memref.whole cc0_scratch4) (loop2_eq ..) (lanewise_Y rfl) _ _) $$ [Hb1 He1]
  · isplitl [Hb1] <;> iassumption
  iintro %r1 %hr1 Hb1 He1
  sl_exec
  iapply (wp_item d _ _ (Memref.whole cc0_scratch2) (Memref.whole cc0_scratch5) (loop3_eq ..) (lanewise_E rfl) _ _) $$ [Hb2 He2]
  · isplitl [Hb2] <;> iassumption
  iintro %r2 %hr2 Hb2 He2
  sl_exec
  iapply (wp_item d _ _ (Memref.whole cc0_scratch0) (Memref.whole cc0_scratch3) (loop4_eq ..) (lanewise_E rfl) _ _) $$ [Hb0 He0]
  · isplitl [Hb0] <;> iassumption
  iintro %r3 %hr3 Hb0 He0
  sl_exec
  iapply (wp_item d _ _ (Memref.whole cc0_scratch1) (Memref.whole cc0_scratch4) (loop5_eq ..) lanewise_A _ _) $$ [Hb1 He1]
  · isplitl [Hb1] <;> iassumption
  iintro %r4 %hr4 Hb1 He1
  sl_exec
  iapply (wp_item d _ _ (Memref.whole cc0_scratch2) (Memref.whole cc0_scratch5) (loop6_eq ..) lanewise_X _ _) $$ [Hb2 He2]
  · isplitl [Hb2] <;> iassumption
  iintro %r5 %hr5 Hb2 He2
  sl_exec
  iapply (wp_item d _ _ (Memref.whole cc0_scratch0) (Memref.whole cc0_scratch3) (loop7_eq ..) (lanewise_Y rfl) _ _) $$ [Hb0 He0]
  · isplitl [Hb0] <;> iassumption
  iintro %r6 %hr6 Hb0 He0
  sl_exec
  iapply (wp_item d _ _ (Memref.whole cc0_scratch1) (Memref.whole cc0_scratch4) (loop8_eq ..) (lanewise_E rfl) _ _) $$ [Hb1 He1]
  · isplitl [Hb1] <;> iassumption
  iintro %r7 %hr7 Hb1 He1
  sl_exec
  iapply (wp_item d _ _ (Memref.whole cc0_scratch2) (Memref.whole cc0_scratch5) (loop9_eq ..) (lanewise_E rfl) _ _) $$ [Hb2 He2]
  · isplitl [Hb2] <;> iassumption
  iintro %r8 %hr8 Hb2 He2
  sl_exec
  iapply (wp_item d _ _ (Memref.whole cc0_scratch0) (Memref.whole cc0_scratch3) (loop10_eq ..) lanewise_A _ _) $$ [Hb0 He0]
  · isplitl [Hb0] <;> iassumption
  iintro %r9 %hr9 Hb0 He0
  sl_exec
  iapply (wp_item d _ _ (Memref.whole cc0_scratch1) (Memref.whole cc0_scratch4) (loop11_eq ..) lanewise_X _ _) $$ [Hb1 He1]
  · isplitl [Hb1] <;> iassumption
  iintro %r10 %hr10 Hb1 He1
  sl_exec
  iapply (wp_item d _ _ (Memref.whole cc0_scratch2) (Memref.whole cc0_scratch5) (loop12_eq ..) (lanewise_Y rfl) _ _) $$ [Hb2 He2]
  · isplitl [Hb2] <;> iassumption
  iintro %r11 %hr11 Hb2 He2
  sl_exec
  iapply (wp_item d _ _ (Memref.whole cc0_scratch0) (Memref.whole cc0_scratch3) (loop13_eq ..) (lanewise_E rfl) _ _) $$ [Hb0 He0]
  · isplitl [Hb0] <;> iassumption
  iintro %r12 %hr12 Hb0 He0
  sl_exec
  iapply (wp_item d _ _ (Memref.whole cc0_scratch1) (Memref.whole cc0_scratch4) (loop14_eq ..) (lanewise_E rfl) _ _) $$ [Hb1 He1]
  · isplitl [Hb1] <;> iassumption
  iintro %r13 %hr13 Hb1 He1
  sl_exec
  iapply (wp_item d _ _ (Memref.whole cc0_scratch2) (Memref.whole cc0_scratch5) (loop15_eq ..) lanewise_A _ _) $$ [Hb2 He2]
  · isplitl [Hb2] <;> iassumption
  iintro %r14 %hr14 Hb2 He2
  sl_exec
  have q0 := settled d L f (unitOf L 0) 0 (k0_off18 L 0#32) (k0_off1 L 0#32 0#32) (out_at L 0).1 (in_at L 0 0)
    (unitOf_lt L (by decide)) (by decide) (k0_off18_inb L 0) (k0_off1_inb L 0 0) (tile_run.sl.dma0_3 r0) (Memref.whole cc0_scratch0)
    (Memref.whole cc0_scratch3) hr0 rfl rfl rfl
  ihave Ho0 := (Entails.of_eq (show _ = itemOut d L (boxes f) 0 from q0 _)) $$ Ho0
  clear q0
  have q1 := settled d L f (unitOf L 0) 1 (k0_off35 L 0#32) (k0_off1 L 0#32 1#32) (out_at L 0).2.1 (in_at L 0 1)
    (unitOf_lt L (by decide)) (by decide) (k0_off35_inb L 0) (k0_off1_inb L 0 1) (tile_run.sl.dma0_5 r1) (Memref.whole cc0_scratch1)
    (Memref.whole cc0_scratch4) hr1 (congrArg gY (congrArg (Scalar.sitofp .f32) (by clear * - L; revert L; decide +kernel))) rfl rfl
  ihave Ho1 := (Entails.of_eq (show _ = itemOut d L (boxes f) 1 from q1 _)) $$ Ho1
  clear q1
  have q2 := settled d L f (unitOf L 0) 2 (k0_off52 L 0#32) (k0_off1 L 0#32 2#32) (out_at L 0).2.2.1 (in_at L 0 2)
    (unitOf_lt L (by decide)) (by decide) (k0_off52_inb L 0) (k0_off1_inb L 0 2) (tile_run.sl.dma0_7 r2) (Memref.whole cc0_scratch2)
    (Memref.whole cc0_scratch5) hr2 (congrArg gE (pick_lit (by clear * - L; revert L; decide +kernel))) rfl rfl
  ihave Ho2 := (Entails.of_eq (show _ = itemOut d L (boxes f) 2 from q2 _)) $$ Ho2
  clear q2
  have q3 := settled d L f (unitOf L 0) 3 (k0_off69 L 0#32) (k0_off1 L 0#32 3#32) (out_at L 0).2.2.2.1 (in_at L 0 3)
    (unitOf_lt L (by decide)) (by decide) (k0_off69_inb L 0) (k0_off1_inb L 0 3) (tile_run.sl.dma0_9 r3) (Memref.whole cc0_scratch0)
    (Memref.whole cc0_scratch3) hr3 (congrArg gE (pick_lit (by clear * - L; revert L; decide +kernel))) rfl rfl
  ihave Ho3 := (Entails.of_eq (show _ = itemOut d L (boxes f) 3 from q3 _)) $$ Ho3
  clear q3
  have q4 := settled d L f (unitOf L 0) 4 (k0_off86 L 0#32) (k0_off1 L 0#32 4#32) (out_at L 0).2.2.2.2 (in_at L 0 4)
    (unitOf_lt L (by decide)) (by decide) (k0_off86_inb L 0) (k0_off1_inb L 0 4) (tile_run.sl.dma0_11 r4) (Memref.whole cc0_scratch1)
    (Memref.whole cc0_scratch4) hr4 rfl rfl rfl
  ihave Ho4 := (Entails.of_eq (show _ = itemOut d L (boxes f) 4 from q4 _)) $$ Ho4
  clear q4
  have q5 := settled d L f (unitOf L 1) 0 (k0_off18 L 1#32) (k0_off1 L 1#32 0#32) (out_at L 1).1 (in_at L 1 0)
    (unitOf_lt L (by decide)) (by decide) (k0_off18_inb L 1) (k0_off1_inb L 1 0) (tile_run.sl.dma0_13 r5) (Memref.whole cc0_scratch2)
    (Memref.whole cc0_scratch5) hr5 rfl rfl rfl
  ihave Ho5 := (Entails.of_eq (show _ = itemOut d L (boxes f) 5 from q5 _)) $$ Ho5
  clear q5
  have q6 := settled d L f (unitOf L 1) 1 (k0_off35 L 1#32) (k0_off1 L 1#32 1#32) (out_at L 1).2.1 (in_at L 1 1)
    (unitOf_lt L (by decide)) (by decide) (k0_off35_inb L 1) (k0_off1_inb L 1 1) (tile_run.sl.dma0_15 r6) (Memref.whole cc0_scratch0)
    (Memref.whole cc0_scratch3) hr6 (congrArg gY (congrArg (Scalar.sitofp .f32) (by clear * - L; revert L; decide +kernel))) rfl rfl
  ihave Ho6 := (Entails.of_eq (show _ = itemOut d L (boxes f) 6 from q6 _)) $$ Ho6
  clear q6
  have q7 := settled d L f (unitOf L 1) 2 (k0_off52 L 1#32) (k0_off1 L 1#32 2#32) (out_at L 1).2.2.1 (in_at L 1 2)
    (unitOf_lt L (by decide)) (by decide) (k0_off52_inb L 1) (k0_off1_inb L 1 2) (tile_run.sl.dma0_17 r7) (Memref.whole cc0_scratch1)
    (Memref.whole cc0_scratch4) hr7 (congrArg gE (pick_lit (by clear * - L; revert L; decide +kernel))) rfl rfl
  ihave Ho7 := (Entails.of_eq (show _ = itemOut d L (boxes f) 7 from q7 _)) $$ Ho7
  clear q7
  have q8 := settled d L f (unitOf L 1) 3 (k0_off69 L 1#32) (k0_off1 L 1#32 3#32) (out_at L 1).2.2.2.1 (in_at L 1 3)
    (unitOf_lt L (by decide)) (by decide) (k0_off69_inb L 1) (k0_off1_inb L 1 3) (tile_run.sl.dma0_19 r8) (Memref.whole cc0_scratch2)
    (Memref.whole cc0_scratch5) hr8 (congrArg gE (pick_lit (by clear * - L; revert L; decide +kernel))) rfl rfl
  ihave Ho8 := (Entails.of_eq (show _ = itemOut d L (boxes f) 8 from q8 _)) $$ Ho8
  clear q8
  have q9 := settled d L f (unitOf L 1) 4 (k0_off86 L 1#32) (k0_off1 L 1#32 4#32) (out_at L 1).2.2.2.2 (in_at L 1 4)
    (unitOf_lt L (by decide)) (by decide) (k0_off86_inb L 1) (k0_off1_inb L 1 4) (tile_run.sl.dma0_21 r9) (Memref.whole cc0_scratch0)
    (Memref.whole cc0_scratch3) hr9 rfl rfl rfl
  ihave Ho9 := (Entails.of_eq (show _ = itemOut d L (boxes f) 9 from q9 _)) $$ Ho9
  clear q9
  have q10 := settled d L f (unitOf L 2) 0 (k0_off18 L 2#32) (k0_off1 L 2#32 0#32) (out_at L 2).1 (in_at L 2 0)
    (unitOf_lt L (by decide)) (by decide) (k0_off18_inb L 2) (k0_off1_inb L 2 0) (tile_run.sl.dma0_23 r10) (Memref.whole cc0_scratch1)
    (Memref.whole cc0_scratch4) hr10 rfl rfl rfl
  ihave Ho10 := (Entails.of_eq (show _ = itemOut d L (boxes f) 10 from q10 _)) $$ Ho10
  clear q10
  have q11 := settled d L f (unitOf L 2) 1 (k0_off35 L 2#32) (k0_off1 L 2#32 1#32) (out_at L 2).2.1 (in_at L 2 1)
    (unitOf_lt L (by decide)) (by decide) (k0_off35_inb L 2) (k0_off1_inb L 2 1) (tile_run.sl.dma0_25 r11) (Memref.whole cc0_scratch2)
    (Memref.whole cc0_scratch5) hr11 (congrArg gY (congrArg (Scalar.sitofp .f32) (by clear * - L; revert L; decide +kernel))) rfl rfl
  ihave Ho11 := (Entails.of_eq (show _ = itemOut d L (boxes f) 11 from q11 _)) $$ Ho11
  clear q11
  have q12 := settled d L f (unitOf L 2) 2 (k0_off52 L 2#32) (k0_off1 L 2#32 2#32) (out_at L 2).2.2.1 (in_at L 2 2)
    (unitOf_lt L (by decide)) (by decide) (k0_off52_inb L 2) (k0_off1_inb L 2 2) (tile_run.sl.dma0_27 r12) (Memref.whole cc0_scratch0)
    (Memref.whole cc0_scratch3) hr12 (congrArg gE (pick_lit (by clear * - L; revert L; decide +kernel))) rfl rfl
  ihave Ho12 := (Entails.of_eq (show _ = itemOut d L (boxes f) 12 from q12 _)) $$ Ho12
  clear q12
  have q13 := settled d L f (unitOf L 2) 3 (k0_off69 L 2#32) (k0_off1 L 2#32 3#32) (out_at L 2).2.2.2.1 (in_at L 2 3)
    (unitOf_lt L (by decide)) (by decide) (k0_off69_inb L 2) (k0_off1_inb L 2 3) (tile_run.sl.dma0_28 r13) (Memref.whole cc0_scratch1)
    (Memref.whole cc0_scratch4) hr13 (congrArg gE (pick_lit (by clear * - L; revert L; decide +kernel))) rfl rfl
  ihave Ho13 := (Entails.of_eq (show _ = itemOut d L (boxes f) 13 from q13 _)) $$ Ho13
  clear q13
  have q14 := settled d L f (unitOf L 2) 4 (k0_off86 L 2#32) (k0_off1 L 2#32 4#32) (out_at L 2).2.2.2.2 (in_at L 2 4)
    (unitOf_lt L (by decide)) (by decide) (k0_off86_inb L 2) (k0_off1_inb L 2 4) (tile_run.sl.dma0_29 r14) (Memref.whole cc0_scratch2)
    (Memref.whole cc0_scratch5) hr14 rfl rfl rfl
  ihave Ho14 := (Entails.of_eq (show _ = itemOut d L (boxes f) 14 from q14 _)) $$ Ho14
  clear q14
  sl_step
  isplitl [Hi0 Hi1 Hi2 Hi3 Hi4 Hi5 Hi6 Hi7 Hi8 Hi9 Hi10 Hi11 Hi12 Hi13 Hi14]
  · iframe
  isplitl [Ho0 Ho1 Ho2 Ho3 Ho4 Ho5 Ho6 Ho7 Ho8 Ho9 Ho10 Ho11 Ho12 Ho13 Ho14]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    iexact Ho14
  isplitl [Hb0 Hb1 Hb2 He0 He1 He2]
  · isplitl [Hb0]; · iexists _; iexact Hb0
    isplitl [Hb1]; · iexists _; iexact Hb1
    isplitl [Hb2]; · iexists _; iexact Hb2
    isplitl [He0]; · iexists _; iexact He0
    isplitl [He1]; · iexists _; iexact He1
    iexists _; iexact He2
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  iexists _; isplitr [HO]
  rotate_left
  · iexact HO
  · ipureintro
    repeat apply waits_insert
    exact fun p hp => .inl hp

end Cert.Proof

end
-- ==== Proof.Parts.lean ====
/- The two arrays of the SparseCore call as the items' blocks, tile by tile. -/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-- The launch's coordinates of a core and a subcore, from their numbers. -/
def at_ (c s : ℕ) : grid0.Coords :=
  fun | 0 => ⟨c % 2, Nat.mod_lt _ (by decide)⟩ | 1 => ⟨s % 16, Nat.mod_lt _ (by decide)⟩ | ⟨_ + 2, h⟩ => absurd h (Nat.not_lt.2 (Nat.le_add_left _ _))

theorem unitOf_at (c : Fin 2) (s : Fin 16) (i : Nat) : unitOf (at_ c s) i = (s.val * 2 + c.val) * 3 + i := by
  show (s.val % 16 * 2 + c.val % 2) * 3 + i = _
  rw [Nat.mod_eq_of_lt s.isLt, Nat.mod_eq_of_lt c.isLt]

/-! ## Membership -/

theorem mem_in {t ch : Nat} (ht : t < 96) (hc : ch < 5) (h) (x : S4x8x15x128x128.Idx) :
    x ∈ (inSl (inO t ch) h).view.set ↔ (x 0).val = t / 24 ∧ (x 2).val = t % 24 / 8 * 5 + ch ∧ (x 3).val / 16 = t % 8 := by
  constructor
  · intro hx
    obtain ⟨y, -, rfl⟩ := Finset.mem_map.mp hx
    have y1 : (y 1).val < 16 := (y 1).isLt
    rw [inSl_emb h y (x := ix5 (n0 := 4) (n1 := 8) (n2 := 15) (n3 := 128) (n4 := 128) ⟨t / 24, by omega⟩ (y 0)
      ⟨t % 24 / 8 * 5 + ch, by omega⟩ ⟨t % 8 * 16 + (y 1).val, by omega⟩ (y 2)) rfl rfl rfl rfl]
    refine ⟨rfl, rfl, ?_⟩
    show (t % 8 * 16 + (y 1).val) / 16 = _; omega
  · rintro ⟨h0, h2, h3⟩
    refine Finset.mem_map.mpr ⟨ix3 (n0 := 8) (n1 := 16) (n2 := 128) (x 1) ⟨(x 3).val % 16, by omega⟩ (x 4), Finset.mem_univ _, ?_⟩
    refine inSl_emb h _ ?_ h0 h2 ?_
    · funext a; match a with | ⟨0, _⟩ => rfl | ⟨1, _⟩ => rfl | ⟨2, _⟩ => rfl | ⟨3, _⟩ => rfl | ⟨4, _⟩ => rfl
    · show (x 3).val = t % 8 * 16 + (x 3).val % 16; omega

theorem mem_out {t ch : Nat} (h) (x : S5x4x384x8x128.Idx) :
    x ∈ (outSl (outO t ch) h).view.set ↔ (x 0).val = ch ∧ (x 1).val = t / 24 ∧ (x 2).val / 16 = t % 24 := by
  constructor
  · intro hx
    obtain ⟨y, -, rfl⟩ := Finset.mem_map.mp hx
    have y0 : (y 0).val < 16 := (y 0).isLt
    obtain ⟨h0, h1, h2, -, -⟩ := outSl_emb h y
    exact ⟨h0, h1, by omega⟩
  · rintro ⟨h0, h1, h2⟩
    have e := outSl_emb h (ix3 (n0 := 16) (n1 := 8) (n2 := 128) ⟨(x 2).val % 16, by omega⟩ (x 3) (x 4))
    have k : (outSl (outO t ch) h).view.emb (ix3 (n0 := 16) (n1 := 8) (n2 := 128) ⟨(x 2).val % 16, by omega⟩ (x 3) (x 4)) = x := by
      funext a; apply Fin.ext
      match a with
      | ⟨0, _⟩ => exact e.1.trans h0.symm
      | ⟨1, _⟩ => exact e.2.1.trans h1.symm
      | ⟨2, _⟩ => exact e.2.2.1.trans (show t % 24 * 16 + (x 2).val % 16 = (x 2).val by omega)
      | ⟨3, _⟩ => exact e.2.2.2.1
      | ⟨4, _⟩ => exact e.2.2.2.2
    exact Finset.mem_map.mpr ⟨_, Finset.mem_univ _, k⟩

/-! ## The partition -/

/-- An item of the whole launch: core, subcore, number. -/
abbrev Item : Type := Fin 2 × Fin 16 × Fin 15

abbrev unitAt (p : Item) : Nat := unitOf (at_ p.1 p.2.1) (p.2.2.val / 5)

theorem unitAt_lt (p : Item) : unitAt p < 96 := unitOf_lt _ (by have := p.2.2.isLt; omega)

/-- The elements of the input array an item works on. -/
def inSet (p : Item) : Finset S4x8x15x128x128.Idx := Finset.univ.filter fun x =>
  (x 0).val = unitAt p / 24 ∧ (x 2).val = unitAt p % 24 / 8 * 5 + p.2.2.val % 5 ∧ (x 3).val / 16 = unitAt p % 8

/-- The elements of the output array it writes. -/
def outSet (p : Item) : Finset S5x4x384x8x128.Idx := Finset.univ.filter fun x =>
  (x 0).val = p.2.2.val % 5 ∧ (x 1).val = unitAt p / 24 ∧ (x 2).val / 16 = unitAt p % 24

theorem mem_inSet (p : Item) (x : S4x8x15x128x128.Idx) : x ∈ inSet p
    ↔ (x 0).val = unitAt p / 24 ∧ (x 2).val = unitAt p % 24 / 8 * 5 + p.2.2.val % 5 ∧ (x 3).val / 16 = unitAt p % 8 := by
  unfold inSet; rw [Finset.mem_filter]; exact and_iff_right (Finset.mem_univ _)

theorem mem_outSet (p : Item) (x : S5x4x384x8x128.Idx) : x ∈ outSet p
    ↔ (x 0).val = p.2.2.val % 5 ∧ (x 1).val = unitAt p / 24 ∧ (x 2).val / 16 = unitAt p % 24 := by
  unfold outSet; rw [Finset.mem_filter]; exact and_iff_right (Finset.mem_univ _)

theorem in_pts (d : Dev nD) (f : S4x8x15x128x128.Idx → F .f32) (p : Item) :
    itemIn d (at_ p.1 p.2.1) f p.2.2 = ((SparseCore.T d : Thread nD τ).loc main_v1 ↦[inSet p]{fullShare} f : sProp (MM F)) := by
  have hc : p.2.2.val % 5 < 5 := Nat.mod_lt _ (by decide)
  have e : (inSl (inO (unitAt p) (p.2.2.val % 5)) (inO_inb (unitAt_lt p) hc)).view.set = inSet p :=
    Finset.ext fun x => (mem_in (unitAt_lt p) hc (inO_inb (unitAt_lt p) hc) x).trans (mem_inSet p x).symm
  exact congrArg (fun I => ((SparseCore.T d : Thread nD τ).loc main_v1 ↦[I]{fullShare} f : sProp (MM F))) e

theorem out_pts (d : Dev nD) (f : S5x4x384x8x128.Idx → F .f32) (p : Item) :
    itemOut d (at_ p.1 p.2.1) f p.2.2 = ((SparseCore.T d : Thread nD τ).loc main_v4 ↦[outSet p]{fullShare} f : sProp (MM F)) := by
  have hc : p.2.2.val % 5 < 5 := Nat.mod_lt _ (by decide)
  have e : (outSl (outO (unitAt p) (p.2.2.val % 5)) (outO_inb (unitAt_lt p) hc)).view.set = outSet p :=
    Finset.ext fun x => (mem_out (outO_inb (unitAt_lt p) hc) x).trans (mem_outSet p x).symm
  exact congrArg (fun I => ((SparseCore.T d : Thread nD τ).loc main_v4 ↦[I]{fullShare} f : sProp (MM F))) e

/-- The item of a unit and a channel. -/
theorem item_of {t ch : Nat} (ht : t < 96) (hc : ch < 5) : ∃ p : Item, unitAt p = t ∧ p.2.2.val % 5 = ch := by
  refine ⟨(⟨t / 3 % 2, by omega⟩, ⟨t / 6, by omega⟩, ⟨t % 3 * 5 + ch, by omega⟩), ?_, ?_⟩
  · show unitOf (at_ (⟨t / 3 % 2, _⟩ : Fin 2) (⟨t / 6, _⟩ : Fin 16)) ((t % 3 * 5 + ch) / 5) = t
    rw [unitOf_at]
    show (t / 6 * 2 + t / 3 % 2) * 3 + (t % 3 * 5 + ch) / 5 = t; omega
  · show (t % 3 * 5 + ch) % 5 = ch; omega

/-- It is the only one. -/
theorem item_eq {p p' : Item} (ht : unitAt p = unitAt p') (hc : p.2.2.val % 5 = p'.2.2.val % 5) : p = p' := by
  obtain ⟨c, s, n⟩ := p
  obtain ⟨c', s', n'⟩ := p'
  unfold unitAt at ht
  rw [unitOf_at, unitOf_at] at ht
  dsimp only at ht hc
  have := c.isLt; have := c'.isLt; have := n.isLt; have := n'.isLt
  rw [show c = c' from Fin.ext (by omega), show s = s' from Fin.ext (by omega), show n = n' from Fin.ext (by omega)]

theorem in_disjoint : ∀ p ∈ (Finset.univ : Finset Item), ∀ p' ∈ (Finset.univ : Finset Item), p ≠ p' → Disjoint (inSet p) (inSet p') := by
  refine fun p _ p' _ hne => Finset.disjoint_left.mpr fun x hx hx' => hne ?_
  obtain ⟨a0, a2, a3⟩ := (mem_inSet p x).mp hx
  obtain ⟨b0, b2, b3⟩ := (mem_inSet p' x).mp hx'
  exact item_eq (by omega) (by omega)

theorem out_disjoint : ∀ p ∈ (Finset.univ : Finset Item), ∀ p' ∈ (Finset.univ : Finset Item), p ≠ p' → Disjoint (outSet p) (outSet p') := by
  refine fun p _ p' _ hne => Finset.disjoint_left.mpr fun x hx hx' => hne ?_
  obtain ⟨a0, a2, a3⟩ := (mem_outSet p x).mp hx
  obtain ⟨b0, b2, b3⟩ := (mem_outSet p' x).mp hx'
  exact item_eq (by omega) (by omega)

theorem in_cover : (Finset.univ : Finset Item).biUnion inSet = Finset.univ := by
  refine Finset.eq_univ_iff_forall.mpr fun x => ?_
  have h0 : (x 0).val < 4 := (x 0).isLt
  have h2 : (x 2).val < 15 := (x 2).isLt
  have h3 : (x 3).val < 128 := (x 3).isLt
  obtain ⟨p, hp, hc⟩ := item_of (t := (x 0).val * 24 + (x 2).val / 5 * 8 + (x 3).val / 16) (ch := (x 2).val % 5) (by omega) (by omega)
  exact Finset.mem_biUnion.mpr ⟨p, Finset.mem_univ _, (mem_inSet p x).mpr ⟨by omega, by omega, by omega⟩⟩

theorem out_cover : (Finset.univ : Finset Item).biUnion outSet = Finset.univ := by
  refine Finset.eq_univ_iff_forall.mpr fun x => ?_
  have h0 : (x 0).val < 5 := (x 0).isLt
  have h1 : (x 1).val < 4 := (x 1).isLt
  have h2 : (x 2).val < 384 := (x 2).isLt
  obtain ⟨p, hp, hc⟩ := item_of (t := (x 1).val * 24 + (x 2).val / 16) (ch := (x 0).val) (by omega) h0
  exact Finset.mem_biUnion.mpr ⟨p, Finset.mem_univ _, (mem_outSet p x).mpr ⟨by omega, by omega, by omega⟩⟩

/-- The input array, whole, is the items' blocks. -/
theorem in_whole (d : Dev nD) (f : S4x8x15x128x128.Idx → F .f32) :
    ((SparseCore.T d : Thread nD τ).loc main_v1 ↦{fullShare} f : sProp (MM F))
      = bigSep Finset.univ fun c : Fin 2 => bigSep Finset.univ fun s : Fin 16 => bigSep Finset.univ (itemIn d (at_ c s) f) := by
  have h := pointsTo_biUnion (Ix := HIx 1) (Name := ℕ) (U := UU) (Lvl := ℕ) (q := fullShare) (Val := Elt F) (Finset.univ : Finset Item) (ℓ := (SparseCore.T d : Thread nD τ).loc main_v1) (f := f) inSet in_disjoint
  rw [in_cover] at h
  refine h.trans ?_
  rw [BI.bigSep_univ_prod]
  refine bigSep_congr fun c _ => ?_
  rw [BI.bigSep_univ_prod]
  refine bigSep_congr fun s _ => bigSep_congr fun n _ => ?_
  exact (in_pts d f (c, s, n)).symm

/-- The output array, whole, is the items' blocks. -/
theorem out_whole (d : Dev nD) (f : S5x4x384x8x128.Idx → F .f32) :
    ((SparseCore.T d : Thread nD τ).loc main_v4 ↦{fullShare} f : sProp (MM F))
      = bigSep Finset.univ fun c : Fin 2 => bigSep Finset.univ fun s : Fin 16 => bigSep Finset.univ (itemOut d (at_ c s) f) := by
  have h := pointsTo_biUnion (Ix := HIx 1) (Name := ℕ) (U := UU) (Lvl := ℕ) (q := fullShare) (Val := Elt F) (Finset.univ : Finset Item) (ℓ := (SparseCore.T d : Thread nD τ).loc main_v4) (f := f) outSet out_disjoint
  rw [out_cover] at h
  refine h.trans ?_
  rw [BI.bigSep_univ_prod]
  refine bigSep_congr fun c _ => ?_
  rw [BI.bigSep_univ_prod]
  refine bigSep_congr fun s _ => bigSep_congr fun n _ => ?_
  exact (out_pts d f (c, s, n)).symm

end Cert.Proof

end
-- ==== Proof.Tasks.lean ====
/- The vector threads' side of the launch: what the call's signals carry, a tile's task from its scoped storage, and how the
   call's operands are the tiles'. -/
module

public import proofs.«01_k».proof.Proof.Parts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## What the signals carry -/

/-- A tile's items: the input blocks at `f`, the output blocks at `h`. -/
abbrev tileItems (d : Dev nD) (c s : ℕ) (f : S4x8x15x128x128.Idx → F .f32) (h : S5x4x384x8x128.Idx → F .f32) : sProp (MM F) :=
  iprop(bigSep Finset.univ (itemIn d (at_ c s) f) ∗ bigSep Finset.univ (itemOut d (at_ c s) h))

variable (f : Dev nD → S4x8x15x128x128.Idx → F .f32) (h : Dev nD → S5x4x384x8x128.Idx → F .f32)

/-- A tile is handed its items, the output blocks at what they held, and hands them back, the output blocks written. -/
def P : (K (F := F)).Pay (nD := nD) (Val := Elt F) (Name := ℕ) (U := UU) where
  st _ d c := bigSep Finset.univ fun s : Fin 16 => tileItems d c.val s.val (f d) (h d)
  dn _ d c := bigSep Finset.univ fun s : Fin 16 => tileItems d c.val s.val (f d) (boxes (f d))
  go _ d c i := tileItems d c.val i.val (f d) (h d)
  td _ d c i := tileItems d c.val i.val (f d) (boxes (f d))
  x _ _ := iprop(emp)

instance tileItems_storable (d : Dev nD) (c s : ℕ) (f : S4x8x15x128x128.Idx → F .f32) (h : S5x4x384x8x128.Idx → F .f32) :
    BI.Storable (upEmb : UEmb _ (MM F)) (tileItems d c s f h) := by
  unfold tileItems itemIn itemOut inPts outPts; infer_instance

instance P_storable : (P f h).IsStorable where
  st _ d c := (inferInstance : BI.Storable (upEmb : UEmb _ (MM F)) (bigSep Finset.univ fun s : Fin 16 => tileItems d c.val s.val (f d) (h d)))
  dn _ d c := (inferInstance : BI.Storable (upEmb : UEmb _ (MM F)) (bigSep Finset.univ fun s : Fin 16 => tileItems d c.val s.val (f d) (boxes (f d))))
  go _ d c i := (inferInstance : BI.Storable (upEmb : UEmb _ (MM F)) (tileItems d c.val i.val (f d) (h d)))
  td _ d c i := (inferInstance : BI.Storable (upEmb : UEmb _ (MM F)) (tileItems d c.val i.val (f d) (boxes (f d))))

/-! ## A tile's own storage -/

omit [FloatOps F] in
/-- A family of distinct members taken out of a product. -/
theorem take_out {I J : Type} [DecidableEq I] [DecidableEq J] [Fintype J] (S : Finset I) (g : J → I) (hi : Function.Injective g) (hg : ∀ j, g j ∈ S)
    (Φ : I → sProp (MM F)) : bigSep S Φ = iprop((bigSep Finset.univ fun j => Φ (g j)) ∗ bigSep (S \ Finset.univ.image g) Φ) := by
  have hs : Finset.univ.image g ⊆ S := Finset.image_subset_iff.mpr fun j _ => hg j
  conv_lhs => rw [← Finset.union_sdiff_of_subset hs]
  rw [SparseCore.bigSep_union' Finset.disjoint_sdiff, SparseCore.bigSep_image_of_injOn hi.injOn]

/-- The six buffers of a tile. -/
abbrev bufAt : Fin 6 → Ref sig .scVector := ![cc0_scratch0, cc0_scratch1, cc0_scratch2, cc0_scratch3, cc0_scratch4, cc0_scratch5]

/-- The six copy semaphores of a tile. -/
abbrev semAt : Fin 6 → SemLoc sig := ![.dma cc0_scratch6.sem, .dma cc0_scratch7.sem, .dma cc0_scratch8.sem, .dma cc0_scratch9.sem,
  .dma cc0_scratch10.sem, .dma cc0_scratch11.sem]

theorem bufAt_inj : ∀ i j, bufAt i = bufAt j → i = j := by decide
theorem semAt_inj : ∀ i j, semAt i = semAt j → i = j := by decide
theorem semAt_scoped : ∀ i, (semAt i).isScoped .scVector = true := by decide

theorem six (Φ : Fin 6 → sProp (MM F)) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- What else a tile owns: nothing its task touches. -/
def spareBufs (d : Dev nD) (L : grid0.Coords) : sProp (MM F) :=
  bigSep (ownRefs (τ := τ) (Vt d L).2 \ Finset.univ.image fun i => (Vt d L).2.devRef (bufAt i)) fun b => iprop(∃ f, ((d, b) : Loc nD τ sig) ↦{fullShare} f)

def spareSems (d : Dev nD) (L : grid0.Coords) : sProp (MM F) :=
  bigSep (ownCells (Vt d L) \ Finset.univ.image fun i => ((Vt d L, semAt i) : GSem nD τ sig)) fun g => semVal g 0

theorem ownBufs_eq (d : Dev nD) (L : grid0.Coords) : (ownBufs (Vt d L) : sProp (MM F)) = iprop(tileBufs d L ∗ spareBufs d L) := by
  unfold SparseCore.Cfg.ownBufs
  refine (take_out _ (fun i => (Vt d L).2.devRef (bufAt i)) (fun i j e => bufAt_inj i j (Proc.devRef_injective _ e))
    (fun i => SparseCore.Cfg.mem_ownRefs_of_owner (p := (Vt d L).2) (b := (Vt d L).2.devRef (bufAt i)) ?_) _).trans ?_
  · revert i; intro i; fin_cases i <;> rfl
  · rw [six]; rfl

theorem ownSems_eq (d : Dev nD) (L : grid0.Coords) : (ownSems0 (Vt d L) : sProp (MM F)) = iprop(tileSems d L ∗ spareSems d L) := by
  unfold SparseCore.Cfg.ownSems0
  refine (take_out _ (fun i => ((Vt d L, semAt i) : GSem nD τ sig)) (fun i j e => semAt_inj i j (Prod.mk.inj e).2)
    (fun i => mem_ownCells.mpr ⟨rfl, semAt_scoped i⟩) _).trans ?_
  rw [six]; rfl

/-! ## The task -/

/-- The task of a tile, from its scoped storage: that storage back, and the waits it recorded. -/
theorem task (d : Dev nD) (L : grid0.Coords) (f : S4x8x15x128x128.Idx → F .f32) (h : S5x4x384x8x128.Idx → F .f32)
    (O : CellTallies nD τ sig (HIx 1)) (W : Waits sig (HIx 1)) (hO : ∀ g, O g none = 0) (X : HIx 1 → Prop) :
    (iprop(levAts (K (F := F)).L (K (F := F)).lev ∗ iprop(emp) ∗ (bigSep Finset.univ (itemIn d L f) ∗ bigSep Finset.univ (itemOut d L h))
      ∗ scopedBufs (Vt d L) ∗ scopedSems0 (Vt d L) ∗ owes (Vt d L) O W) : sProp (MM F))
    ⊢ wp frame (wpE (defs₀ (F := F)) 𝒱₀ (Vt d L) none) Set.univ
          (cc0__sc_body L (Memref.whole main_v1_scv) (Memref.isWhole_whole _) (Memref.whole main_v4_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11)
          fun _ => iprop((bigSep Finset.univ (itemIn d L f) ∗ bigSep Finset.univ (itemOut d L (boxes f)))
            ∗ scopedBufs (Vt d L) ∗ scopedSems0 (Vt d L)
            ∗ ∃ W', ⌜∀ p ∈ W', p ∈ W ∨ p.2 = none ∨ X p.2⌝ ∗ owes (Vt d L) O W') := by
  rw [(K (F := F)).scopedBufs_V facts d _ _, SparseCore.Cfg.scopedSems0_V (Val := Elt F) d _ _, ownBufs_eq, ownSems_eq]
  iintro ⟨Hlv, -, ⟨Hi, Ho⟩, ⟨Hb, Hb'⟩, ⟨Hs, Hs'⟩, HO⟩
  iapply (wp_wand_r frame)
  isplitl [Hlv Hi Ho Hb Hs HO]
  · iapply (tile_run d L f h O W)
    isplitl [Hlv]; · iapply ((K (F := F)).mayWaits_none hO); iexact Hlv
    isplitl [Hi]; · iexact Hi
    isplitl [Ho]; · iexact Ho
    isplitl [Hb]; · iexact Hb
    isplitl [Hs]; · iexact Hs
    iexact HO
  iintro %_ ⟨Hi, Ho, Hb, Hs, %W', %hW, HO⟩
  isplitl [Hi Ho]; · isplitl [Hi] <;> iassumption
  isplitl [Hb Hb']; · isplitl [Hb] <;> iassumption
  isplitl [Hs Hs']; · isplitl [Hs] <;> iassumption
  iexists W'
  isplitr; · ipureintro; exact fun p hp => (hW p hp).imp_right Or.inl
  iexact HO

/-- The coordinates of the tile of core `c` and subcore `s`. -/
abbrev coordsOf (c : Fin (grid0.bound 0)) (s : Fin (grid0.bound 1)) : grid0.Coords :=
  fun | 0 => c | 1 => s | ⟨_ + 2, h⟩ => absurd h (Nat.not_lt.2 (Nat.le_add_left _ _))

theorem at_eq (c : Fin (grid0.bound 0)) (s : Fin (grid0.bound 1)) : at_ c.val s.val = coordsOf c s := by
  funext a
  match a with
  | 0 => exact Fin.ext (Nat.mod_eq_of_lt c.isLt)
  | 1 => exact Fin.ext (Nat.mod_eq_of_lt s.isLt)

theorem body_vector (c : Fin (grid0.bound 0)) (s : Fin (grid0.bound 1)) :
    defs₀ (F := F) (.scVector (c.castLE hcore0) (s.castLE hsub0)) 0 ()
      = cc0__sc_body (coordsOf c s) (Memref.whole main_v1_scv) (Memref.isWhole_whole _) (Memref.whole main_v4_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11 := by
  have hc : (Fin.castLE hcore0 c).val < grid0.bound 0 ∧ (Fin.castLE hsub0 s).val < grid0.bound 1 := ⟨c.isLt, s.isLt⟩
  show SparseCore.onTile hcore0 hsub0 (fun c s => cc0__sc_body (coordsOf c s) (Memref.whole main_v1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) PUnit.unit (Fin.castLE hcore0 c) (Fin.castLE hsub0 s) = _
  simp only [SparseCore.onTile, hc, and_self, ↓reduceDIte]
  rfl

theorem tileObl : (K (F := F)).TileObl (D (F := F)) 𝒱 (P f h) v₀ 0 := by
  intro d c i O W hO _ _
  simp only [show (P f h).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show ((K (F := F)).core 0 c) = Fin.castLE hcore0 (c : Fin (grid0.bound 0)) from rfl,
    show ((K (F := F)).sub 0 i) = Fin.castLE hsub0 (i : Fin (grid0.bound 1)) from rfl, body_vector c i]
  have h1 : (P f h).go 0 d c i
      = iprop(bigSep Finset.univ (itemIn d (coordsOf c i) (f d)) ∗ bigSep Finset.univ (itemOut d (coordsOf c i) (h d))) :=
    congrArg (fun L => iprop(bigSep Finset.univ (itemIn d L (f d)) ∗ bigSep Finset.univ (itemOut d L (h d)))) (at_eq c i)
  have h2 : (P f h).td 0 d c i
      = iprop(bigSep Finset.univ (itemIn d (coordsOf c i) (f d)) ∗ bigSep Finset.univ (itemOut d (coordsOf c i) (boxes (f d)))) :=
    congrArg (fun L => iprop(bigSep Finset.univ (itemIn d L (f d)) ∗ bigSep Finset.univ (itemOut d L (boxes (f d))))) (at_eq c i)
  rw [h1, h2]
  exact task d (coordsOf c i) (f d) (h d) O W hO _

theorem vecSplit : (K (F := F)).VecSplit (P f h) 0 := by
  refine SparseCore.Cfg.VecSplit.of_plain fun d c => ?_
  show (bigSep Finset.univ fun s : Fin 16 => tileItems d c.val s.val (f d) (h d)) ⊢ |={Set.univ}=> iprop(
    (bigSep Finset.univ fun s : Fin 16 => tileItems d c.val s.val (f d) (h d))
    ∗ ((bigSep Finset.univ fun s : Fin 16 => tileItems d c.val s.val (f d) (boxes (f d)))
      -∗ bigSep Finset.univ fun s : Fin 16 => tileItems d c.val s.val (f d) (boxes (f d))))
  iintro H; imodintro
  isplitl [H]; · iexact H
  iintro H; iexact H

/-- All the operands of the call are the two arrays, whole. -/
theorem operands (d : Dev nD) (v : S4x8x15x128x128.Idx → F .f32) (w : S5x4x384x8x128.Idx → F .f32) :
    (bigSep Finset.univ fun c : Fin 2 => bigSep Finset.univ fun s : Fin 16 => tileItems d c.val s.val v w)
      = iprop(((SparseCore.T d : Thread nD τ).loc main_v1 ↦{fullShare} v : sProp (MM F))
          ∗ ((SparseCore.T d : Thread nD τ).loc main_v4 ↦{fullShare} w : sProp (MM F))) := by
  rw [in_whole, out_whole]
  unfold tileItems
  rw [← bigSep_sep']
  exact bigSep_congr fun c _ => bigSep_sep' _ _ _

end Cert.Proof

end
-- ==== Proof.Region.lean ====
/- The TensorCore's pipeline: what its body leaves in its two result blocks, its region between two states of the
   unscoped buffers, and the two arrays it leaves as functions of the two it reads. -/
module

public import proofs.«01_k».proof.Proof.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Value
public import Idealize.ShloMosaic.Lib.Pipeline.ValueKit.Geometry
public import Idealize.ShloMosaic.Lib.ValueIdx
public import Idealize.ShloMosaic.Lib.VecWindow
public import Idealize.ShloMosaic.Lib.Pipeline.RegionsLoop
public import Idealize.ShloMosaic.Lib.Pipeline.FrameBody

@[expose] public section

noncomputable section

namespace Cert.Proof.Region

open Cert.KernelIdeal Cert.KernelIdeal.Gen Cert.Proof

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat BodyObligation)

variable {F : FTy → Type} [FloatOps F]

/-! ## The proof data at an entry state -/

variable (V : (c : Dev nD) → (b : Ref sig .tc) → Buf (Elt F) ((c : Thread nD τ).loc b))

/-- The blocks of the two inputs at point `t`. -/
abbrev conf (c : Dev nD) (t : Fin cfg1.N) : S1x8x1x128x128.Idx → F .f32 := ((cfg1.win 0).blk t).view.read (Elt F) (V c main_v2)
abbrev cls (c : Dev nD) (t : Fin cfg1.N) : S1x8x1x128x128.Idx → F .f32 := ((cfg1.win 1).blk t).view.read (Elt F) (V c main_v3)

/-- The waits recorded so far are below the level the TensorCore's own later signals sit at. -/
def low (c : Dev nD) : Set (SemLoc sig × HIx 1) := {p | (K (F := F)).lev ((c : Thread nD τ), p.1) p.2 ≤ 8}

/-- The two inputs stay; the results' blocks are what the body stores. -/
def dat (c : Dev nD) : Dat τ (Elt F) (HIx 1) ℕ UU ℕ cfg1 c where
  A w := V c (Pipeline.arrRef spec1 w)
  after w t := match w with
    | ⟨0, _⟩ => conf V c t
    | ⟨1, _⟩ => cls V c t
    | ⟨2, _⟩ => k1_pay1 (conf V c t) (cls V c t)
    | ⟨3, _⟩ => k1_pay2
  Φ _ := iprop(emp)
  q _ := fullShare
  owed _ := 0
  recorded _ := low (F := F) c

theorem before_conf (c : Dev nD) (t : Fin cfg1.N) (d) : (dat V c).before 0 t d = conf V c t := by
  unfold Dat.before; rw [if_pos (fetch1_0 t)]; rfl
theorem before_cls (c : Dev nD) (t : Fin cfg1.N) (d) : (dat V c).before 1 t d = cls V c t := by
  unfold Dat.before; rw [if_pos (fetch1_1 t)]; rfl

theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

set_option maxHeartbeats 4000000 in
/-- The body over any four buffers: the inputs stay, the results are what it stores. -/
theorem body_run (c : Dev nD) (i : grid1.Coords) (M0 : Memref sig .tc .vmem S1x8x1x128x128 .f32) (h0 : M0.IsWhole)
    (M1 : Memref sig .tc .vmem S1x8x1x128x128 .f32) (h1 : M1.IsWhole) (M2 : Memref sig .tc .vmem S1x128x8x128 .f32) (h2 : M2.IsWhole)
    (M3 : Memref sig .tc .vmem S1x128x8x128 .i32) (h3 : M3.IsWhole)
    (X0 X1 : S1x8x1x128x128.Idx → F .f32) (X2 : S1x128x8x128.Idx → F .f32) (X3 : S1x128x8x128.Idx → BitVec 32) :
    (iprop(owns (c : Thread nD τ) M0 fullShare X0 ∗ owns (c : Thread nD τ) M1 fullShare X1 ∗ owns (c : Thread nD τ) M2 fullShare X2
        ∗ owns (c : Thread nD τ) M3 fullShare X3) : sProp (MM F))
      ⊢ wp frame (wpE (defs₀ (F := F)) 𝒱₀ (c : Thread nD τ) none) Set.univ (cc1__tc_score_body i M0 h0 M1 h1 M2 h2 M3 h3)
          fun _ => iprop(owns (c : Thread nD τ) M0 fullShare X0 ∗ owns (c : Thread nD τ) M1 fullShare X1
            ∗ owns (c : Thread nD τ) M2 fullShare (k1_pay1 X0 X1) ∗ owns (c : Thread nD τ) M3 fullShare (k1_pay2 : S1x128x8x128.Idx → BitVec 32)) := by
  rw [cc1__tc_score_body_eq_skeleton]
  unfold cc1__tc_score_body_skel owns
  iintro ⟨⟨%f0, %hf0, H0⟩, ⟨%f1, %hf1, H1⟩, ⟨%f2, -, H2⟩, ⟨%f3, -, H3⟩⟩
  subst hf0 hf1
  sl_exec
  sl_step
  isplitl [H0]; · iexists _; isplitr; swap; (· iexact H0); ipureintro; rfl
  isplitl [H1]; · iexists _; isplitr; swap; (· iexact H1); ipureintro; rfl
  isplitl [H2]
  · iexists _; isplitr; swap; (· iexact H2); ipureintro
    rw [View.read_writes_full]
    rw [View.readAt_eq_ld, View.readAt_eq_ld]
    exact congrArg₂ k1_pay1 (View.ld_unit_zero (S := S1x8x1x128x128) zero5 _ _) (View.ld_unit_zero (S := S1x8x1x128x128) zero5 _ _)
  iexists _; isplitr; swap; (· iexact H3); ipureintro
  rw [View.read_writes_full]

/-- The body at point `t`. -/
theorem body_obligation (c : Dev nD) : BodyObligation (dat V c) (defs₀ (F := F)) 𝒱₀ none Set.univ := fun t => by
  rw [bigSep_W1, bigSep_W1]
  rw [show (dat V c).Φ t.castSucc = iprop(emp) from rfl, show (dat V c).Φ t.succ = iprop(emp) from rfl,
    show (dat V c).owesAt none t.succ = (dat V c).owesAt none t.castSucc from rfl]
  show _ ⊢ wp frame _ Set.univ (bodyAt1 t) _
  unfold bodyAt1
  iintro ⟨-, Howes, ⟨%d0, H0⟩, ⟨%d1, H1⟩, ⟨%d2, H2⟩, ⟨%d3, H3⟩⟩
  rw [before_conf, before_cls]
  iapply (wp_wand_r frame)
  isplitl [H0 H1 H2 H3]
  · iapply body_run
    isplitl [H0]; · iexact H0
    isplitl [H1]; · iexact H1
    isplitl [H2]; · iexact H2
    iexact H3
  iintro %_ ⟨H0, H1, H2, H3⟩
  isplitr; · iempintro
  isplitl [Howes]; · iexact Howes
  isplitl [H0]; · iexact H0
  isplitl [H1]; · iexact H1
  isplitl [H2]; · iexact H2
  iexact H3

/-! ## The two arrays it leaves -/

/-- Where the scores' element `x` is read: its detection's row and column in the anchor's plane. -/
abbrev planeIdx (x : S4x384x8x128.Idx) : S4x8x3x128x128.Idx :=
  ix5 (x 0) (x 2) (⟨(x 1).val / 128, by have : (x 1).val < 384 := (x 1).isLt; omega⟩ : Fin 3)
    (⟨(x 1).val % 128, Nat.mod_lt _ (by decide)⟩ : Fin 128) (x 3)

/-- The scores: confidence times class probability. -/
def scores (u w : S4x8x3x128x128.Idx → F .f32) : S4x384x8x128.Idx → F .f32 := fun x =>
  FloatOps.mulf (FloatOps.logistic (u (planeIdx x))) (FloatOps.logistic (w (planeIdx x)))

/-- Where a block's element is read in the inputs' blocks. -/
abbrev blockIdx (y : S1x128x8x128.Idx) : S1x8x1x128x128.Idx := ix5 (y 0) (y 2) (0 : Fin 1) (y 1) (y 3)

theorem pay1_apply (a b : S1x8x1x128x128.Idx → F .f32) (y : S1x128x8x128.Idx) :
    k1_pay1 a b y = FloatOps.mulf (FloatOps.logistic (a (blockIdx y))) (FloatOps.logistic (b (blockIdx y))) := by
  have h0 : (y 0).val = 0 := by have : (y 0).val < 1 := (y 0).isLt; omega
  unfold k1_pay1
  rw [shapeCast_apply _ _ y (ix3 (y 1) (y 2) (y 3) : S128x8x128.Idx)
      (by rw [Shape.rowMajor_val_three, Shape.rowMajor_val_four]; simp [h0]),
    transpose_apply _ _ _ (ix3 (y 1) (y 2) (y 3) : S128x8x128.Idx) (ix3 (y 2) (y 1) (y 3) : S8x128x128.Idx) (by
      intro k; fin_cases k <;> rfl)]
  show FloatOps.mulf (FloatOps.logistic (shapeCast S8x128x128 a _ (ix3 (y 2) (y 1) (y 3)))) (FloatOps.logistic (shapeCast S8x128x128 b _ (ix3 (y 2) (y 1) (y 3)))) = _
  rw [shapeCast_apply a _ (ix3 (y 2) (y 1) (y 3) : S8x128x128.Idx) (blockIdx y)
      (by rw [Shape.rowMajor_val_three, Shape.rowMajor_val_five]; simp [h0]),
    shapeCast_apply b _ (ix3 (y 2) (y 1) (y 3) : S8x128x128.Idx) (blockIdx y)
      (by rw [Shape.rowMajor_val_three, Shape.rowMajor_val_five]; simp [h0])]

theorem plane_ext {z : S4x8x3x128x128.Idx} {x : S4x384x8x128.Idx} (h0 : (z 0).val = (x 0).val) (h1 : (z 1).val = (x 2).val)
    (h2 : (z 2).val = (x 1).val / 128) (h3 : (z 3).val = (x 1).val % 128) (h4 : (z 4).val = (x 3).val) : z = planeIdx x := by
  funext k; apply Fin.ext; fin_cases k <;> assumption

/-- The windows' block indices at a point: the batch block and the anchor. -/
theorem index0 : ∀ t : Fin cfg1.N, win1_0.index t = ![(grid1.coords t 0).val, 0, (grid1.coords t 1).val, 0, 0] :=
  (by decide +kernel : ∀ t : Fin grid1.N, _)
theorem index1 : ∀ t : Fin cfg1.N, win1_1.index t = ![(grid1.coords t 0).val, 0, (grid1.coords t 1).val, 0, 0] :=
  (by decide +kernel : ∀ t : Fin grid1.N, _)
theorem index2 : ∀ t : Fin cfg1.N, win1_2.index t = ![(grid1.coords t 0).val, (grid1.coords t 1).val, 0, 0] :=
  (by decide +kernel : ∀ t : Fin grid1.N, _)

theorem final_scores (c : Dev nD) : (dat V c).arrAt 2 cfg1.N = scores (V c main_v2) (V c main_v3) := by
  refine (dat V c).arrAt_eq_of_covers 2 _ (by decide +kernel) fun t _ y => ?_
  have h0 : (y 0).val < 1 := (y 0).isLt
  have h1 : (y 1).val < 128 := (y 1).isLt
  blk_simp
  show k1_pay1 (conf V c t) (cls V c t) y = _
  rw [pay1_apply]
  unfold scores
  have key (z : S1x8x1x128x128.Idx) (z0 : (z 0).val = (y 0).val) (z1 : (z 1).val = (y 2).val) (z2 : (z 2).val = 0)
      (z3 : (z 3).val = (y 1).val) (z4 : (z 4).val = (y 3).val) :
      ((cfg1.win 0).blk t).view.emb z = planeIdx (((cfg1.win 2).blk t).view.emb y)
        ∧ ((cfg1.win 1).blk t).view.emb z = planeIdx (((cfg1.win 2).blk t).view.emb y) := by
    constructor <;> refine plane_ext ?_ ?_ ?_ ?_ ?_ <;> blk_simp [index0, index1, index2] <;> omega
  have ⟨ha, hb⟩ := key (blockIdx y) rfl rfl rfl rfl rfl
  show FloatOps.mulf (FloatOps.logistic (V c main_v2 (((cfg1.win 0).blk t).view.emb (blockIdx y))))
    (FloatOps.logistic (V c main_v3 (((cfg1.win 1).blk t).view.emb (blockIdx y)))) = _
  rw [ha, hb]

theorem final_classes (c : Dev nD) : (dat V c).arrAt 3 cfg1.N = fun _ => (0#32 : BitVec 32) := by
  refine (dat V c).arrAt_eq_of_covers 3 _ (by decide +kernel) fun t _ y => ?_
  blk_simp
  rfl

/-! ## The region -/

/-- The contents admissible at the one entry. -/
abbrev adm (p : Fin 1) : (pcfgs (F := F) p).Adm := (cfgs p).toPCfg_adm

def pdats : (p : Fin 1) → (c : Dev nD) → Dat τ (Elt F) (HIx 1) ℕ UU ℕ (Pipeline.pin (pcfgs (F := F)) adm p) c
  | ⟨0, _⟩ => fun c => dat V c

instance : (EP (F := F)).LandsIn (upEmb : UEmb _ (MM F)) := by unfold EP; infer_instance

/-- Some record of waits within `low` is what the core has. -/
abbrev owed0 (c : Dev nD) : sProp (MM F) :=
  iprop(∃ W, ⌜∀ p ∈ W, p ∈ low (F := F) c⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- From the unscoped buffers at `V` to them at `Vp`, which has the two results and agrees with `V` elsewhere. -/
def reg (R : Dev nD → sProp (MM F)) (h4 : ∀ c, Vp c main_v5_0 = scores (V c main_v2) (V c main_v3))
    (h5 : ∀ c, Vp c main_v5_1 = fun _ => (0#32 : BitVec 32))
    (hne : ∀ c (b : Ref sig .tc), b ≠ main_v5_0 → b ≠ main_v5_1 → Vp c b = V c b) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ owed0 c)
  post c := iprop(unscopedBufs c (Vp c) ∗ R c ∗ owed0 c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HR, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [show (pdats V 0 c).Φ 0 = iprop(emp) from rfl]
    iintro -
    iempintro
  hout c := by
    rw [Pipeline.ownSems0_none, show (pdats V 0 c).Φ (Fin.last _) = iprop(emp) from rfl]
    have e := scopedRest1_eq (Ix := HIx 1) (Val := Elt F) (Name := ℕ) (U := UU) (Lvl := ℕ) c
    iintro -
    isplitr; · iempintro
    isplitr; · iempintro
    iapply (Entails.of_eq e.symm)
    iempintro
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v2 (by decide) (by decide)).symm
        · exact ((pdats V 0 c).arrAt_in 1 rfl _).trans (hne c main_v3 (by decide) (by decide)).symm
        · exact (final_scores V c).trans (h4 c).symm
        · exact (final_classes V c).trans (h5 c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Region

end
-- ==== Proof.Main.lean ====
/- @main on the TensorCore and the whole launch: the four host operations before the calls, the SparseCore's call, the
   score pipeline, the six host operations after, and what the three results hold. -/
module

public import proofs.«01_k».proof.Proof.Tasks
public import proofs.«01_k».proof.Proof.Region

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The host operations -/

/-- A TensorCore buffer as a buffer of its device. -/
abbrev buf (r : Ref sig .tc) : DevRef τ sig := Proc.devRef .tc r

/-- The operations before the calls. -/
def pre : List (HloOp τ sig (Elt F)) :=
  [StableHlo.unary main_arg0 main_v0 ((transpose S32x3x5x128x128 [0, 1, 4, 2, 3] · transposes_S32x3x128x128x5_S32x3x5x128x128_0_1_4_2_3) : (⟨S32x3x128x128x5, .f32⟩ : BufTy).Contents (Elt F) → (⟨S32x3x5x128x128, .f32⟩ : BufTy).Contents (Elt F)),
   StableHlo.reshape main_v0 main_v1 (rfl : (.f32 : EltTy) = .f32) shapeCasts_S32x3x5x128x128_S4x8x15x128x128,
   StableHlo.reshape main_arg1 main_v2 (rfl : (.f32 : EltTy) = .f32) shapeCasts_S32x3x128x128x1_S4x8x3x128x128,
   StableHlo.reshape main_arg2 main_v3 (rfl : (.f32 : EltTy) = .f32) shapeCasts_S32x3x128x128x1_S4x8x3x128x128]

/-- The operations after them. -/
def post : List (HloOp τ sig (Elt F)) :=
  [StableHlo.unary main_v4 main_v6 ((transpose S4x8x384x128x5 [1, 3, 2, 4, 0] · transposes_S5x4x384x8x128_S4x8x384x128x5_1_3_2_4_0) : (⟨S5x4x384x8x128, .f32⟩ : BufTy).Contents (Elt F) → (⟨S4x8x384x128x5, .f32⟩ : BufTy).Contents (Elt F)),
   StableHlo.reshape main_v6 main_v7 (rfl : (.f32 : EltTy) = .f32) shapeCasts_S4x8x384x128x5_S32x49152x5,
   StableHlo.unary main_v5_0 main_v8 ((transpose S4x8x384x128 [0, 2, 1, 3] · transposes_S4x384x8x128_S4x8x384x128_0_2_1_3) : (⟨S4x384x8x128, .f32⟩ : BufTy).Contents (Elt F) → (⟨S4x8x384x128, .f32⟩ : BufTy).Contents (Elt F)),
   StableHlo.reshape main_v8 main_v9 (rfl : (.f32 : EltTy) = .f32) shapeCasts_S4x8x384x128_S32x49152,
   StableHlo.unary main_v5_1 main_v10 ((transpose S4x8x384x128 [0, 2, 1, 3] · transposes_S4x384x8x128_S4x8x384x128_0_2_1_3) : (⟨S4x384x8x128, .i32⟩ : BufTy).Contents (Elt F) → (⟨S4x8x384x128, .i32⟩ : BufTy).Contents (Elt F)),
   StableHlo.reshape main_v10 main_v11 (rfl : (.i32 : EltTy) = .i32) shapeCasts_S4x8x384x128_S32x49152]

theorem main_eq (d : Dev nD) : main (F := F) d
    = (StableHlo.seq pre >>= fun _ => (K (F := F)).run d 0 >>= fun _ =>
        Prog.lift (.customCall (SparseCore.inner (Pipeline.entry 0)) ()) >>= fun _ => StableHlo.seq post >>= fun _ => pure ⟨⟩) := by
  simp only [main, pre, post, StableHlo.seq, bind_assoc, pure_bind]

theorem unscoped_mem (r : Ref sig .tc) (h : r.isScoped = false := by rfl) : buf r ∈ Pipeline.ucRefs τ sig :=
  Finset.mem_filter.mpr ⟨Finset.mem_map.mpr ⟨r, Finset.mem_univ _, rfl⟩, by rw [show (buf r).isScoped = r.isScoped from rfl, h]; decide⟩

theorem pair_sub (a b : Ref sig .tc) (ha : a.isScoped = false) (hb : b.isScoped = false) :
    ({buf a, buf b} : Finset (DevRef τ sig)) ⊆ Pipeline.ucRefs τ sig := by
  intro x hx
  rcases Finset.mem_insert.mp hx with rfl | hx
  · exact unscoped_mem a ha
  · rw [Finset.mem_singleton.mp hx]; exact unscoped_mem b hb

theorem pre_bufs : ∀ op ∈ pre (F := F), op.bufs ⊆ Pipeline.ucRefs τ sig := by
  intro op hop
  simp only [pre, List.mem_cons, List.not_mem_nil, or_false] at hop
  rcases hop with rfl | rfl | rfl | rfl <;> exact pair_sub _ _ rfl rfl
theorem post_bufs : ∀ op ∈ post (F := F), op.bufs ⊆ Pipeline.ucRefs τ sig := by
  intro op hop
  simp only [post, List.mem_cons, List.not_mem_nil, or_false] at hop
  rcases hop with rfl | rfl | rfl | rfl | rfl | rfl <;> exact pair_sub _ _ rfl rfl
theorem pre_fresh : ∀ op ∈ pre (F := F), op.fresh = ∅ := by
  intro op hop
  simp only [pre, List.mem_cons, List.not_mem_nil, or_false] at hop
  rcases hop with rfl | rfl | rfl | rfl <;> rfl
theorem post_fresh : ∀ op ∈ post (F := F), op.fresh = ∅ := by
  intro op hop
  simp only [post, List.mem_cons, List.not_mem_nil, or_false] at hop
  rcases hop with rfl | rfl | rfl | rfl | rfl | rfl <;> rfl

/-! ## The states of the unscoped buffers -/

variable (m : (ℓ : Loc nD τ sig) → Buf (Elt F) ℓ) (ρ : Dev nD → PrngReg)

def V0 (d : Dev nD) : Valuation τ sig (Elt F) := fun b => m (d, b)
/-- Before the calls. -/
def V1 (d : Dev nD) : Valuation τ sig (Elt F) := after pre (V0 m d)
/-- After the SparseCore's. -/
def V2 (d : Dev nD) : Valuation τ sig (Elt F) := Function.update (V1 m d) (buf main_v4) (boxes (V1 m d (buf main_v1)))
/-- After the pipeline. -/
def V3 (d : Dev nD) : Valuation τ sig (Elt F) :=
  Function.update (Function.update (V2 m d) (buf main_v5_0) (Region.scores (V2 m d (buf main_v2)) (V2 m d (buf main_v3))))
    (buf main_v5_1) (fun _ => (0#32 : BitVec 32))
/-- At the end. -/
def V4 (d : Dev nD) : Valuation τ sig (Elt F) := after post (V3 m d)

/-- What the SparseCore's call is handed and returns. -/
abbrev PP : (K (F := F)).Pay (nD := nD) (Val := Elt F) (U := UU) (Name := ℕ) := P (fun d => V1 m d (buf main_v1)) (fun d => V1 m d (buf main_v4))

/-- The two arrays of the call, out of all. -/
abbrev S2 : Finset (DevRef τ sig) := {buf main_v1, buf main_v4}

theorem S2_sub : S2 ⊆ Pipeline.ucRefs τ sig := pair_sub _ _ rfl rfl

theorem held_two (d : Dev nD) (W : Valuation τ sig (Elt F)) :
    (held (SparseCore.T d : Thread nD τ) S2 W : sProp (MM F))
      = iprop(((SparseCore.T d : Thread nD τ).loc main_v1 ↦{fullShare} W (buf main_v1) : sProp (MM F))
          ∗ ((SparseCore.T d : Thread nD τ).loc main_v4 ↦{fullShare} W (buf main_v4))) := by
  unfold held S2
  rw [SparseCore.bigSep_insert' (by decide), bigSep_singleton]

theorem V2_v1 (d : Dev nD) : V2 m d (buf main_v1) = V1 m d (buf main_v1) := Function.update_of_ne (by decide) _ _
theorem V2_v4 (d : Dev nD) : V2 m d (buf main_v4) = boxes (V1 m d (buf main_v1)) := Function.update_self _ _ _
theorem held_rest (d : Dev nD) :
    (held (SparseCore.T d : Thread nD τ) (Pipeline.ucRefs τ sig \ S2) (V1 m d) : sProp (MM F))
      = held (SparseCore.T d : Thread nD τ) (Pipeline.ucRefs τ sig \ S2) (V2 m d) := by
  refine StableHlo.held_congr _ fun b hb => (Function.update_of_ne ?_ _ _).symm
  rintro rfl
  exact (Finset.mem_sdiff.mp hb).2 (by decide)

/-- The two arrays of the call as the tiles' items: handed over, and returned. -/
theorem st_arrays (f : Dev nD → S4x8x15x128x128.Idx → F .f32) (h : Dev nD → S5x4x384x8x128.Idx → F .f32) (d : Dev nD) :
    (bigSep Finset.univ fun c : Fin ((K (F := F)).nCore 0) => (P f h).st 0 d c)
      = iprop(((SparseCore.T d : Thread nD τ).loc main_v1 ↦{fullShare} f d : sProp (MM F))
          ∗ ((SparseCore.T d : Thread nD τ).loc main_v4 ↦{fullShare} h d : sProp (MM F))) := by
  have e' (c : Fin ((K (F := F)).nCore 0)) : (P f h).st 0 d c = bigSep Finset.univ fun s : Fin 16 => tileItems d c.val s.val (f d) (h d) := rfl
  simp only [e']
  exact operands d (f d) (h d)
theorem dn_arrays (f : Dev nD → S4x8x15x128x128.Idx → F .f32) (h : Dev nD → S5x4x384x8x128.Idx → F .f32) (d : Dev nD) :
    (bigSep Finset.univ fun c : Fin ((K (F := F)).nCore 0) => (P f h).dn 0 d c)
      = iprop(((SparseCore.T d : Thread nD τ).loc main_v1 ↦{fullShare} f d : sProp (MM F))
          ∗ ((SparseCore.T d : Thread nD τ).loc main_v4 ↦{fullShare} boxes (f d) : sProp (MM F))) := by
  have e' (c : Fin ((K (F := F)).nCore 0)) : (P f h).dn 0 d c = bigSep Finset.univ fun s : Fin 16 => tileItems d c.val s.val (f d) (boxes (f d)) := rfl
  simp only [e']
  exact operands d (f d) (boxes (f d))

theorem st_eq (d : Dev nD) : (bigSep Finset.univ fun c : Fin ((K (F := F)).nCore 0) => (PP m).st 0 d c)
    = (held (SparseCore.T d : Thread nD τ) S2 (V1 m d) : sProp (MM F)) := by
  rw [held_two, st_arrays]
theorem dn_eq (d : Dev nD) : (bigSep Finset.univ fun c : Fin ((K (F := F)).nCore 0) => (PP m).dn 0 d c)
    = (held (SparseCore.T d : Thread nD τ) S2 (V2 m d) : sProp (MM F)) := by
  rw [held_two, dn_arrays, V2_v1, V2_v4]

/-! ## The pipeline's region, and its ghost state -/

/-- The states of the buffers as the region reads them. -/
abbrev at2 (c : Dev nD) (b : Ref sig .tc) : Buf (Elt F) ((c : Thread nD τ).loc b) := V2 m c (buf b)
abbrev at3 (c : Dev nD) (b : Ref sig .tc) : Buf (Elt F) ((c : Thread nD τ).loc b) := V3 m c (buf b)

theorem at3_ne (c : Dev nD) (b : Ref sig .tc) (h4 : b ≠ main_v5_0) (h5 : b ≠ main_v5_1) : at3 m c b = at2 m c b :=
  (Function.update_of_ne (StableHlo.devRef_ne_of_ne h5) _ _).trans (Function.update_of_ne (StableHlo.devRef_ne_of_ne h4) _ _)

def region : Pipeline.RegionSeg (pcfgs (F := F)) Region.adm (Region.pdats (at2 m)) none defs₀ 𝒱₀ (K (F := F)).L (K (F := F)).lev 0 :=
  Region.reg (at2 m) (at3 m) (fun _ => iprop(emp))
    (fun c => (Function.update_of_ne (show buf main_v5_0 ≠ buf main_v5_1 by decide) _ _).trans (Function.update_self _ _ _))
    (fun c => Function.update_self _ _ _) (at3_ne m)

/-- A core's ghost state for the pipeline. -/
abbrev ghost (d : Dev nD) : sProp (MM F) :=
  iprop(Pipeline.cellsGhost (Pipeline.pin (pcfgs (F := F)) Region.adm) EP 0 d ∗ Pipeline.toksInit (Pipeline.pin (pcfgs (F := F)) Region.adm) EP 0 d)

theorem hinj : Function.Injective (Pipeline.cellOf (nD := nD) (τ := τ) (Pipeline.pin (pcfgs (F := F)) Region.adm)) := cellOf_inj

def u₀ : UU := (initOf (K (F := F)).hsCells (K (F := F)).hsToks,
  (initOf (Pipeline.cells (Pipeline.pin (pcfgs (F := F)) Region.adm) hinj) (Pipeline.launchToks (Pipeline.pin (pcfgs (F := F)) Region.adm) hinj), 1))

theorem hu₀ : (ownU (u₀ (F := F)) : sProp (MM F))
    ⊢ |={Set.univ}=> iprop(BI.own (EH (initOf (K (F := F)).hsCells (K (F := F)).hsToks)) ∗ bigSep Finset.univ (ghost (F := F))
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) Region.adm) EP hinj) $$ HP with ⟨Hc, Ht⟩
  imodintro
  isplitl [HH]; · iexact HH
  isplitl [Hc Ht]
  · rw [bigSep_sep']
    isplitl [Hc]
    · iapply (Entails.of_eq (show (bigSep Finset.univ fun c : Dev nD => bigSep Finset.univ fun p => Pipeline.cellsGhost (Pipeline.pin (pcfgs (F := F)) Region.adm) EP p c : sProp (MM F)) = _ from bigSep_congr fun c _ => bigSep_univ_of_subsingleton (0 : Fin 1)))
      iexact Hc
    · iapply (Entails.of_eq (show (bigSep Finset.univ fun c : Dev nD => bigSep Finset.univ fun p => Pipeline.toksInit (Pipeline.pin (pcfgs (F := F)) Region.adm) EP p c : sProp (MM F)) = _ from bigSep_congr fun c _ => bigSep_univ_of_subsingleton (0 : Fin 1)))
      iexact Ht
  iapply (Entails.of_eq (show (iprop(emp) : sProp (MM F)) = _ from
    (((bigSep_congr fun thr _ => bigSep_emp_const _).trans (bigSep_emp_const _)).symm :
      (iprop(emp) : sProp (MM F)) = bigSep Finset.univ fun thr : Thread nD τ => bigSep Finset.univ fun q : Fin 1 => iprop(emp))))
  iempintro

/-! ## @main -/

/-- What @main leaves the claims: every unscoped buffer at its last contents. -/
abbrev FIN (d : Dev nD) : sProp (MM F) := held (SparseCore.T d : Thread nD τ) (Pipeline.ucRefs τ sig) (V4 m d)

theorem unscoped_eq (d : Dev nD) (W : Valuation τ sig (Elt F)) :
    (unscopedBufs d (fun b => W (buf b)) : sProp (MM F)) = held (SparseCore.T d : Thread nD τ) (Pipeline.ucRefs τ sig) W :=
  Pipeline.unscopedBufs_held d W

set_option backward.isDefEq.respectTransparency.types false in
theorem hmain (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = _ from unscoped_eq d (V0 m d), main_eq]
  iintro ⟨#Hctx, Hst, ⟨Hb, Hheld, Hts, -⟩, Hcg, Htk⟩
  iapply (StableHlo.wp_seq 𝒱 none Set.univ d (Pipeline.ucRefs τ sig) _ pre pre_bufs pre_fresh (V0 m d)) $$ [Hb Hheld]
  · isplitl [Hb] <;> iassumption
  rw [show after pre (V0 m d) = V1 m d from rfl]
  iintro ⟨Hb, Hheld⟩
  -- the SparseCore's call, on two of the arrays
  rw [wp_bind]
  ihave Hh := (Entails.of_eq (StableHlo.held_sub_split (SparseCore.T d : Thread nD τ) S2_sub (V1 m d))) $$ Hheld
  icases Hh with ⟨H2, Hrest⟩
  iapply ((K (F := F)).wp_run (D (F := F)) 𝒱 (EH := EH) (P := PP m) κ d 0) $$ [Hst H2 Hb Hrest Hts Hcg Htk]
  isplitr; · iexact Hctx
  isplitl [Hst]; · iexact Hst
  isplitl [H2]; · rw [st_eq]; iexact H2
  iintro ⟨Hst, Hdn⟩
  ihave H2 := (Entails.of_eq (dn_eq m d)) $$ Hdn
  ihave Hrest := (Entails.of_eq (held_rest m d)) $$ Hrest
  ihave Hheld := (Entails.of_eq (StableHlo.held_sub_split (SparseCore.T d : Thread nD τ) S2_sub (V2 m d)).symm) $$ [H2 Hrest]
  · isplitl [H2] <;> iassumption
  ihave Hub := (Entails.of_eq (unscoped_eq d (V2 m d)).symm) $$ Hheld
  -- the pipeline's region
  rw [wp_bind]
  unfold SparseCore.Cfg.tcSt
  icases Hst with ⟨⟨%W, %hW, HO⟩, Hrest⟩
  ihave Hlev := (SparseCore.Cfg.ctx_levAts κ) $$ Hctx
  ihave HO := (Entails.of_eq (congrArg (fun O => (owes (SparseCore.T d : Thread nD τ) O W : sProp (MM F))) ((K (F := F)).Otc_end d (show 1 ≤ (0 : Fin 1).val + 1 from le_refl _)))) $$ HO
  rw [(K (F := F)).Otc_end d (show 1 ≤ 1 from le_refl _)]
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  iapply ((K (F := F)).wp_liftProg (D (F := F)) 𝒱 (SparseCore.T d) Set.univ none _ _)
  iapply (Pipeline.RegionSeg.wp (pcfgs (F := F)) Region.adm (Region.pdats (at2 m)) none hinj EP defs₀ 𝒱₀ (K (F := F)).L (K (F := F)).lev (region m) d none
    (fun _ h => nomatch h) _ _)
  isplitl [Hrest Hts]
  · iintro ⟨Hb, Hpost⟩
    rw [wp_ret]; imodintro
    ihave Hpost := (Entails.of_eq (show (region m).post d = iprop(unscopedBufs d (at3 m d) ∗ iprop(emp) ∗ Region.owed0 d) from rfl)) $$ Hpost
    icases Hpost with ⟨Hub, -, ⟨%W', %hW', HO⟩⟩
    ihave Hheld := (Entails.of_eq (unscoped_eq d (V3 m d))) $$ Hub
    iapply (StableHlo.wp_seq 𝒱 none Set.univ d (Pipeline.ucRefs τ sig) _ post post_bufs post_fresh (V3 m d)) $$ [Hb Hheld]
    · isplitl [Hb] <;> iassumption
    rw [show after post (V3 m d) = V4 m d from rfl]
    iintro ⟨Hb, Hheld⟩
    rw [wp_pure]; imodintro
    isplitl [HO Hrest]
    · isplitl [HO]
      · iexists W'
        isplitr; · ipureintro; exact hW'
        iexact HO
      iexact Hrest
    isplitl [Hheld]; · iexact Hheld
    isplitl [Hb] <;> iassumption
  isplitl [Hb]; · iexact Hb
  isplitl [Hub HO]
  · iapply (Entails.of_eq (show iprop(unscopedBufs d (at2 m d) ∗ iprop(emp) ∗ Region.owed0 d) = (region m).pre d from rfl))
    isplitl [Hub]; · iexact Hub
    isplitr; · iempintro
    iexists W
    isplitr; · ipureintro; exact hW
    iexact HO
  isplitr; · iexact Hlev
  isplitl [Hcg] <;> iassumption

/-! ## The run -/

variable [∀ e, Nonempty (Elt F e)]

/-- What the claims read of a device's final memory: every unscoped buffer. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp (MM F)) := by
  unfold FIN held
  refine (pointsTo_read_all (Pipeline.ucRefs τ sig) (fun b => ((d, b) : Loc nD τ sig)) (fun b => V4 m d b) s').trans ?_
  iintro ⟨%h, -⟩
  ipureintro; exact h

/-- The whole launch: every unscoped buffer ends at the last state, and every semaphore at zero. -/
theorem run_main : θ_run (defs (F := F)) (threads (F := F)) ⟨m, fun _ => 0, ρ⟩
    (fun r => (∀ d, ∀ b ∈ Pipeline.ucRefs τ sig, r.2.mem (d, b) = V4 m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _)
    (fun q _ => match q with | 0 => vecSplit _ _)
    m ρ main (ghost (F := F)) (FIN m) (u₀ (F := F)) (sep_elim_left.trans (hu₀ m)) (hmain m ρ) (fq m) (hfin m) _ (fun _ h hz => ⟨h, hz⟩)

end Cert.Proof

end
-- ==== Proof.Numbers.lean ====
/- The kernel's arithmetic at one element over the extended reals, and one formula for each channel that both programs
   are then shown to compute. -/
module

public import proofs.«01_k».proof.Proof.Work
public import Idealize.ShloMosaic.Lib.ValueIdx
public import Idealize.ShloMosaic.Lib.IdealHost

@[expose] public section

noncomputable section

namespace Cert.Proof

open Cert.KernelIdeal Cert.KernelIdeal.Gen
open Idealize.ShloMosaic

/-! ## Literals -/

/-- A natural number as an extended real. -/
abbrev nat (n : ℕ) : EReal := ((n : ℝ) : EReal)

theorem word_eight : Ideal.ofBits .f32 0x41000000#32 = ((8 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_180 : Ideal.ofBits .f32 0x43340000#32 = ((180 : ℝ) : EReal) := by
  simp [Ideal.ofBits, Ideal.ieee, -EReal.coe_mul]; norm_num
theorem word_360 : Ideal.ofBits .f32 0x43B40000#32 = ((360 : ℝ) : EReal) := by
  simp [Ideal.ofBits, Ideal.ieee, -EReal.coe_mul]; norm_num
/-- The reference's π is some positive real number: which one does not matter. -/
theorem word_pi : ∃ p : ℝ, p ≠ 0 ∧ Ideal.ofBits .f32 0x40490FDB#32 = (p : EReal) := by
  refine ⟨13176795 / 4194304, by norm_num, ?_⟩
  simp [Ideal.ofBits, Ideal.ieee, -EReal.coe_mul]; norm_num

/-- The eight lane words are the multiples of sixteen. -/
theorem word_lane : ∀ c : Fin 8, Ideal.ofBits .f32 (laneWord c) = nat (16 * c.val)
  | 0 | 1 | 2 | 3 | 4 | 5 | 6 | 7 => by simp [laneWord, nat, Ideal.ofBits, Ideal.ieee, -EReal.coe_mul] <;> norm_num

/-- A small number's word, read signed and made a float, is the number. -/
theorem float_word (n : ℕ) (h : n < 2 ^ 31) : (FloatOps.sitofp .f32 (BitVec.ofNat 32 n) : Ideal .f32) = nat n := by
  show (((BitVec.ofNat 32 n).toInt : ℝ) : EReal) = _
  rw [BitVec.toInt_ofNat', Int.bmod_eq_of_le (by omega) (by omega)]
  simp [nat]

/-! ## The sigmoid -/

/-- The kernel's sigmoid is the logistic function. -/
theorem sigF_eq (x : Ideal .f32) : sigF (F := Ideal) x = Ideal.logistic x := by
  show Ideal.div (Ideal.ofBits .f32 0x3F800000#32) (Ideal.ofBits .f32 0x3F800000#32 + Ideal.exp (Ideal.ofBits .f32 0#32 - x)) = _
  rw [Ideal.ofBits_one_f32, Ideal.ofBits_zero_f32, zero_sub]
  rfl

/-- The logistic function of an extended real is a real number. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-! ## One formula per channel -/

/-- What the two programs compute at channel `c` of the cell at row `y` and column `x` for anchor `a`, from the input's
    element `v`: the box's centre, its sides, its angle. -/
def boxVal (c a y x : ℕ) (v : EReal) : EReal :=
  match c with
  | 0 => (Ideal.logistic v + nat x) * Ideal.ofBits .f32 0x41000000#32
  | 1 => (Ideal.logistic v + nat y) * Ideal.ofBits .f32 0x41000000#32
  | 2 => Ideal.exp v * Ideal.ofBits .f32 (widthWord a)
  | 3 => Ideal.exp v * Ideal.ofBits .f32 (heightWord a)
  | _ => Ideal.logistic v * ((360 : ℝ) : EReal) - ((180 : ℝ) : EReal)

theorem nat_add (a b : ℕ) : nat a + nat b = nat (a + b) := by simp [nat]

/-- The reference goes by radians to degrees and gets the same angle. -/
theorem angle_eq (v : EReal) :
    Ideal.div (Ideal.logistic v * Ideal.ofBits .f32 0x40000000#32 * Ideal.ofBits .f32 0x40490FDB#32 - Ideal.ofBits .f32 0x40490FDB#32)
      (Ideal.ofBits .f32 0x40490FDB#32) * Ideal.ofBits .f32 0x43340000#32
    = Ideal.logistic v * ((360 : ℝ) : EReal) - ((180 : ℝ) : EReal) := by
  obtain ⟨p, hp, e⟩ := word_pi
  obtain ⟨r, hr⟩ := logistic_real v
  rw [e, hr, word_two, word_180, Ideal.div_coe hp]
  norm_cast
  field_simp
  ring

/-- The kernel's channel is the formula. -/
theorem chan_eq {ch t : ℕ} (hc : ch < 5) (y : S16x8x128.Idx) (v : Ideal .f32) :
    chan (F := Ideal) ch t y v = boxVal ch (t % 24 / 8) (t % 8 * 16 + (y 0).val) (y 2).val v := by
  have h0 : (y 0).val < 16 := (y 0).isLt
  have h2 : (y 2).val < 128 := (y 2).isLt
  interval_cases ch
  · show (sigF (F := Ideal) v + (FloatOps.sitofp .f32 (BitVec.ofNat 32 ((y 2).val % 16)) + Ideal.ofBits .f32 (laneWord ⟨(y 2).val / 16, _⟩)))
      * Ideal.ofBits .f32 0x41000000#32 = _
    rw [sigF_eq, float_word _ (by omega), word_lane, nat_add, show (y 2).val % 16 + 16 * ((y 2).val / 16) = (y 2).val by omega]
    rfl
  · show (sigF (F := Ideal) v + (FloatOps.sitofp .f32 (BitVec.ofNat 32 (t % 8 * 16)) + FloatOps.sitofp .f32 (BitVec.ofNat 32 (y 0).val)))
      * Ideal.ofBits .f32 0x41000000#32 = _
    rw [sigF_eq, float_word _ (by omega), float_word _ (by omega), nat_add]
    rfl
  · rfl
  · rfl
  · show sigF (F := Ideal) v * Ideal.ofBits .f32 0x43B40000#32 - Ideal.ofBits .f32 0x43340000#32 = _
    rw [sigF_eq, word_360, word_180]
    rfl

end Cert.Proof

end
-- ==== Proof.Answer.lean ====
/- The three results of the kernel's run over the extended reals, as functions of the three arguments. -/
module

public import proofs.«01_k».proof.Proof.Main
public import proofs.«01_k».proof.Proof.Numbers
public import Idealize.ShloMosaic.Lib.StableHlo.RunRead

@[expose] public section

noncomputable section

namespace Cert.Proof

open Cert.KernelIdeal Cert.KernelIdeal.Gen
open Idealize.ShloMosaic Idealize.ShloMosaic.TcCoe Idealize.ShloMosaic.ValueIdx
open Idealize.ShloMosaic.StableHlo (after)

/-! ## The formulas -/

/-- The cell of the first argument that an element of the boxes comes from: a box's number is its anchor, row and column,
    counted in that order. -/
def cellIdx (j : S32x49152x5.Idx) : S32x3x128x128x5.Idx :=
  ix5 (j 0) ⟨(j 1).val / 16384, by have : (j 1).val < 49152 := (j 1).isLt; omega⟩ ⟨(j 1).val / 128 % 128, by omega⟩
    ⟨(j 1).val % 128, by omega⟩ (j 2)

/-- The boxes. -/
def outBoxes (u : S32x3x128x128x5.Idx → EReal) : S32x49152x5.Idx → EReal := fun j =>
  boxVal (j 2).val ((j 1).val / 16384) ((j 1).val / 128 % 128) ((j 1).val % 128) (u (cellIdx j))

/-- The cell a box's score comes from. -/
def planeCell (j : S32x49152.Idx) : S32x3x128x128x1.Idx :=
  ix5 (j 0) ⟨(j 1).val / 16384, by have : (j 1).val < 49152 := (j 1).isLt; omega⟩ ⟨(j 1).val / 128 % 128, by omega⟩
    ⟨(j 1).val % 128, by omega⟩ 0

/-- The scores: confidence times class probability. -/
def outScores (u w : S32x3x128x128x1.Idx → EReal) : S32x49152.Idx → EReal := fun j =>
  Ideal.logistic (u (planeCell j)) * Ideal.logistic (w (planeCell j))

/-! ## The run's last state over any floats -/

section Any
variable {F : FTy → Type} [FloatOps F] (m : (ℓ : Loc nD τ sig) → Buf (Elt F) ℓ) (d : Dev nD)

theorem V1_v1 : V1 m d (buf main_v1) = fun i => shapeCast S4x8x15x128x128
    (transpose S32x3x5x128x128 [0, 1, 4, 2, 3] (V0 m d (buf main_arg0)) transposes_S32x3x128x128x5_S32x3x5x128x128_0_1_4_2_3)
    shapeCasts_S32x3x5x128x128_S4x8x15x128x128 i := by
  unfold V1 buf; after_reads_simp; rfl

theorem V2_v2 : V2 m d (buf main_v2) = fun i => shapeCast S4x8x3x128x128 (V0 m d (buf main_arg1))
    shapeCasts_S32x3x128x128x1_S4x8x3x128x128 i := by
  refine (Function.update_of_ne (by decide) _ _).trans ?_
  unfold V1 buf; after_reads_simp; rfl

theorem V2_v3 : V2 m d (buf main_v3) = fun i => shapeCast S4x8x3x128x128 (V0 m d (buf main_arg2))
    shapeCasts_S32x3x128x128x1_S4x8x3x128x128 i := by
  refine (Function.update_of_ne (by decide) _ _).trans ?_
  unfold V1 buf; after_reads_simp; rfl

theorem V4_v7 : V4 m d (buf main_v7) = fun i => shapeCast S32x49152x5
    (transpose S4x8x384x128x5 [1, 3, 2, 4, 0] (boxes (V1 m d (buf main_v1))) transposes_S5x4x384x8x128_S4x8x384x128x5_1_3_2_4_0)
    shapeCasts_S4x8x384x128x5_S32x49152x5 i := by
  have e : V3 m d (buf main_v4) = boxes (V1 m d (buf main_v1)) :=
    ((Function.update_of_ne (by decide) _ _).trans (Function.update_of_ne (by decide) _ _)).trans (V2_v4 m d)
  rw [← e]; unfold V4 buf; after_reads_simp; rfl

theorem V4_v9 : V4 m d (buf main_v9) = fun i => shapeCast S32x49152
    (transpose S4x8x384x128 [0, 2, 1, 3] (Region.scores (V2 m d (buf main_v2)) (V2 m d (buf main_v3))) transposes_S4x384x8x128_S4x8x384x128_0_2_1_3)
    shapeCasts_S4x8x384x128_S32x49152 i := by
  have e : V3 m d (buf main_v5_0) = Region.scores (V2 m d (buf main_v2)) (V2 m d (buf main_v3)) :=
    (Function.update_of_ne (by decide) _ _).trans (Function.update_self _ _ _)
  rw [← e]; unfold V4 buf; after_reads_simp; rfl

/-- The class numbers are zero. -/
theorem V4_v11 : V4 m d (buf main_v11) = fun _ => (0#32 : BitVec 32) := by
  have e : V3 m d (buf main_v5_1) = fun _ => (0#32 : BitVec 32) := Function.update_self _ _ _
  have e' : V4 m d (buf main_v11) = fun i => shapeCast S32x49152
      (transpose S4x8x384x128 [0, 2, 1, 3] (V3 m d (buf main_v5_1)) transposes_S4x384x8x128_S4x8x384x128_0_2_1_3)
      shapeCasts_S4x8x384x128_S32x49152 i := by unfold V4 buf; after_reads_simp; rfl
  rw [e', e]; rfl

/-- Nothing writes an argument. -/
theorem V4_arg (r : Ref sig .tc) (h : r = main_arg0 ∨ r = main_arg1 ∨ r = main_arg2) : V4 m d (buf r) = m (d, buf r) := by
  have e : V4 m d (buf r) = V3 m d (buf r) := by rcases h with rfl | rfl | rfl <;> (unfold V4 buf; after_reads_simp)
  have e1 : V1 m d (buf r) = V0 m d (buf r) := by rcases h with rfl | rfl | rfl <;> (unfold V1 buf; after_reads_simp)
  have e2 : V3 m d (buf r) = V1 m d (buf r) := by
    rcases h with rfl | rfl | rfl <;>
      exact ((Function.update_of_ne (by decide) _ _).trans (Function.update_of_ne (by decide) _ _)).trans (Function.update_of_ne (by decide) _ _)
  rw [e, e2, e1]; rfl

end Any

/-! ## The results over the extended reals -/

variable (m : (ℓ : Loc nD τ sig) → Buf (Elt Ideal) ℓ) (d : Dev nD)

theorem kernel_boxes : V4 m d (buf main_v7) = outBoxes (m (d, buf main_arg0)) := by
  rw [V4_v7, V1_v1]
  funext j
  have h0 : (j 0).val < 32 := (j 0).isLt
  have h1 : (j 1).val < 49152 := (j 1).isLt
  have h2 : (j 2).val < 5 := (j 2).isLt
  refine (shapeCast_apply _ _ j (ix5 (n0 := 4) (n1 := 8) (n2 := 384) (n3 := 128) (n4 := 5) ⟨(j 0).val / 8, by omega⟩ ⟨(j 0).val % 8, by omega⟩
    ⟨(j 1).val / 128, by omega⟩ ⟨(j 1).val % 128, by omega⟩ (j 2)) ?_).trans ?_
  · rw [Shape.rowMajor_val_five, Shape.rowMajor_val_three]
    show ((((j 0).val / 8 * 8 + (j 0).val % 8) * 384 + (j 1).val / 128) * 128 + (j 1).val % 128) * 5 + (j 2).val
      = ((j 0).val * 49152 + (j 1).val) * 5 + (j 2).val
    omega
  refine (transpose_apply _ _ _ _ (ix5 (n0 := 5) (n1 := 4) (n2 := 384) (n3 := 8) (n4 := 128) (j 2) ⟨(j 0).val / 8, by omega⟩
    ⟨(j 1).val / 128, by omega⟩ ⟨(j 0).val % 8, by omega⟩ ⟨(j 1).val % 128, by omega⟩) ?_).trans ?_
  · intro b
    match b with | ⟨0, _⟩ => rfl | ⟨1, _⟩ => rfl | ⟨2, _⟩ => rfl | ⟨3, _⟩ => rfl | ⟨4, _⟩ => rfl
  refine (chan_eq h2 _ _).trans ?_
  unfold outBoxes
  have ea : ((j 0).val / 8 * 24 + (j 1).val / 128 / 16) % 24 / 8 = (j 1).val / 16384 := by omega
  have ey : ((j 0).val / 8 * 24 + (j 1).val / 128 / 16) % 8 * 16 + (j 1).val / 128 % 16 = (j 1).val / 128 % 128 := by omega
  show boxVal (j 2).val (((j 0).val / 8 * 24 + (j 1).val / 128 / 16) % 24 / 8)
    (((j 0).val / 8 * 24 + (j 1).val / 128 / 16) % 8 * 16 + (j 1).val / 128 % 16) ((j 1).val % 128) _ = _
  rw [ea, ey]
  refine congrArg (boxVal _ _ _ _) ?_
  refine (shapeCast_apply _ _ _ (ix5 (n0 := 32) (n1 := 3) (n2 := 5) (n3 := 128) (n4 := 128) (j 0) ⟨(j 1).val / 16384, by omega⟩ (j 2)
    ⟨(j 1).val / 128 % 128, by omega⟩ ⟨(j 1).val % 128, by omega⟩) ?_).trans ?_
  · rw [Shape.rowMajor_val_five, Shape.rowMajor_val_five]
    show ((((j 0).val * 3 + (j 1).val / 16384) * 5 + (j 2).val) * 128 + (j 1).val / 128 % 128) * 128 + (j 1).val % 128
      = ((((j 0).val / 8 * 8 + (j 0).val % 8) * 15 + ((j 1).val / 128 / 128 * 5 + (j 2).val)) * 128 + (j 1).val / 128 % 128) * 128 + (j 1).val % 128
    omega
  refine (transpose_apply _ _ _ _ (cellIdx j) ?_)
  intro b
  match b with | ⟨0, _⟩ => rfl | ⟨1, _⟩ => rfl | ⟨2, _⟩ => rfl | ⟨3, _⟩ => rfl | ⟨4, _⟩ => rfl

theorem kernel_scores : V4 m d (buf main_v9) = outScores (m (d, buf main_arg1)) (m (d, buf main_arg2)) := by
  rw [V4_v9, V2_v2, V2_v3]
  funext j
  have h0 : (j 0).val < 32 := (j 0).isLt
  have h1 : (j 1).val < 49152 := (j 1).isLt
  refine (shapeCast_apply _ _ j (ix4 (n0 := 4) (n1 := 8) (n2 := 384) (n3 := 128) ⟨(j 0).val / 8, by omega⟩ ⟨(j 0).val % 8, by omega⟩
    ⟨(j 1).val / 128, by omega⟩ ⟨(j 1).val % 128, by omega⟩) ?_).trans ?_
  · rw [Shape.rowMajor_val_four, Shape.rowMajor_val_two]
    show (((j 0).val / 8 * 8 + (j 0).val % 8) * 384 + (j 1).val / 128) * 128 + (j 1).val % 128 = (j 0).val * 49152 + (j 1).val
    omega
  refine (transpose_apply _ _ _ _ (ix4 (n0 := 4) (n1 := 384) (n2 := 8) (n3 := 128) ⟨(j 0).val / 8, by omega⟩
    ⟨(j 1).val / 128, by omega⟩ ⟨(j 0).val % 8, by omega⟩ ⟨(j 1).val % 128, by omega⟩) ?_).trans ?_
  · intro b
    match b with | ⟨0, _⟩ => rfl | ⟨1, _⟩ => rfl | ⟨2, _⟩ => rfl | ⟨3, _⟩ => rfl
  have e : ∀ u : S32x3x128x128x1.Idx → EReal, shapeCast S4x8x3x128x128 u shapeCasts_S32x3x128x128x1_S4x8x3x128x128
      (Region.planeIdx (ix4 (n0 := 4) (n1 := 384) (n2 := 8) (n3 := 128) ⟨(j 0).val / 8, by omega⟩
    ⟨(j 1).val / 128, by omega⟩ ⟨(j 0).val % 8, by omega⟩ ⟨(j 1).val % 128, by omega⟩)) = u (planeCell j) := fun u => by
    refine shapeCast_apply _ _ _ _ ?_
    rw [Shape.rowMajor_val_five, Shape.rowMajor_val_five]
    show ((((j 0).val * 3 + (j 1).val / 16384) * 128 + (j 1).val / 128 % 128) * 128 + (j 1).val % 128) * 1 + 0
      = ((((j 0).val / 8 * 8 + (j 0).val % 8) * 3 + (j 1).val / 128 / 128) * 128 + (j 1).val / 128 % 128) * 128 + (j 1).val % 128
    omega
  exact congrArg₂ (fun a b => Ideal.logistic a * Ideal.logistic b) (e _) (e _)

end Cert.Proof

end
-- ==== Proof.Boxes.lean ====
/- The reference's three results over the extended reals, read at an index. -/
module

public import proofs.«01_k».proof.Proof.Reference
public import proofs.«01_k».proof.Proof.Answer
public import Idealize.ShloMosaic.Lib.Pointwise.SelectCore

@[expose] public section

noncomputable section

namespace Cert.Proof.Ref

open Cert.ReferenceIdeal Cert.ReferenceIdeal.Gen
open Idealize.ShloMosaic hiding ix1 ix2 ix4 ix5
open Idealize.ShloMosaic.TcCoe Idealize.ShloMosaic.StableHlo Idealize.ShloMosaic.ValueIdx

/-! ## Operations at an index -/

/-- The four pieces put together along the last axis, read at each channel. -/
theorem pieces {α : Type} (x0 x1 x3 : S32x3x128x128x1.Idx → α) (x2 : S32x3x128x128x2.Idx → α) (a : Fin 32) (b : Fin 3) (y x : Fin 128) (c : Fin 5)
    (f : Fin 5 → α) (h0 : x0 (ix5 a b y x 0) = f 0) (h1 : x1 (ix5 a b y x 0) = f 1) (h2 : x2 (ix5 a b y x 0) = f 2)
    (h3 : x2 (ix5 a b y x 1) = f 3) (h4 : x3 (ix5 a b y x 0) = f 4) :
    concatenate S32x3x128x128x5 4 [⟨S32x3x128x128x1, x0⟩, ⟨S32x3x128x128x1, x1⟩, ⟨S32x3x128x128x2, x2⟩, ⟨S32x3x128x128x1, x3⟩]
      concatenates_S32x3x128x128x1_S32x3x128x128x1_S32x3x128x128x2_S32x3x128x128x1_S32x3x128x128x5_d4 (ix5 a b y x c)
    = f c := by
  rw [concatenate_apply]
  have e {n : ℕ} (i k : (⟨5, ![32, 3, 128, 128, n]⟩ : Shape).Idx) (h : ∀ d, (i d).val = (k d).val) : i = k := funext fun d => Fin.ext (h d)
  match c with
  | 0 => rw [← h0]; simp only [concatenateAt_cons, concatenateAt_singleton]; exact congrArg x0 (e _ _ fun d => match d with | ⟨0, _⟩ | ⟨1, _⟩ | ⟨2, _⟩ | ⟨3, _⟩ | ⟨4, _⟩ => rfl)
  | 1 => rw [← h1]; simp only [concatenateAt_cons, concatenateAt_singleton]; exact congrArg x1 (e _ _ fun d => match d with | ⟨0, _⟩ | ⟨1, _⟩ | ⟨2, _⟩ | ⟨3, _⟩ | ⟨4, _⟩ => rfl)
  | 2 => rw [← h2]; simp only [concatenateAt_cons, concatenateAt_singleton]; exact congrArg x2 (e _ _ fun d => match d with | ⟨0, _⟩ | ⟨1, _⟩ | ⟨2, _⟩ | ⟨3, _⟩ | ⟨4, _⟩ => rfl)
  | 3 => rw [← h3]; simp only [concatenateAt_cons, concatenateAt_singleton]; exact congrArg x2 (e _ _ fun d => match d with | ⟨0, _⟩ | ⟨1, _⟩ | ⟨2, _⟩ | ⟨3, _⟩ | ⟨4, _⟩ => rfl)
  | 4 => rw [← h4]; simp only [concatenateAt_cons, concatenateAt_singleton]; exact congrArg x3 (e _ _ fun d => match d with | ⟨0, _⟩ | ⟨1, _⟩ | ⟨2, _⟩ | ⟨3, _⟩ | ⟨4, _⟩ => rfl)

/-- One channel cut out and its unit axis dropped. -/
theorem cut (c : Fin 5) {off : Fin 5 → ℕ} (ho : off = ![0, 0, 0, 0, c.val]) (h : S32x3x128x128x5.Slices off S32x3x128x128x1)
    (u : S32x3x128x128x5.Idx → EReal) (a : Fin 32) (b : Fin 3) (y x : Fin 128) :
    shapeCast S32x3x128x128 (extractStridedSlice S32x3x128x128x1 off u h) shapeCasts_S32x3x128x128x1_S32x3x128x128 (ix4 a b y x)
      = u (ix5 a b y x c) := by
  subst ho
  refine (shapeCast_apply _ _ _ (ix5 (n4 := 1) a b y x 0) ?_).trans ?_
  · rw [Shape.rowMajor_val_five, Shape.rowMajor_val_four]
    show (((a.val * 3 + b.val) * 128 + y.val) * 128 + x.val) * 1 + 0 = ((a.val * 3 + b.val) * 128 + y.val) * 128 + x.val
    omega
  · refine extractStridedSlice_apply _ _ _ _ _ fun d => ?_
    match d with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl

/-- A unit axis added at the end. -/
theorem widen (u : S32x3x128x128.Idx → EReal) (a : Fin 32) (b : Fin 3) (y x : Fin 128) :
    broadcastInDim S32x3x128x128x1 ![0, 1, 2, 3] bcast_S32x3x128x128_S32x3x128x128x1_0_1_2_3 u (ix5 a b y x 0) = u (ix4 a b y x) := by
  refine broadcastInDim_apply _ _ _ _ _ fun d => ?_
  match d with | ⟨0, _⟩ | ⟨1, _⟩ | ⟨2, _⟩ | ⟨3, _⟩ => rfl

/-- A plane spread over images and anchors. -/
theorem spread (u : S128x128.Idx → EReal) (a : Fin 32) (b : Fin 3) (y x : Fin 128) :
    broadcastInDim S32x3x128x128 ![0, 1, 2, 3] bcast_S1x1x128x128_S32x3x128x128_0_1_2_3
      (broadcastInDim S1x1x128x128 ![2, 3] bcast_S128x128_S1x1x128x128_2_3 u) (ix4 a b y x) = u (ix2 y x) := by
  refine (broadcastInDim_apply _ _ _ _ (ix4 (n0 := 1) (n1 := 1) 0 0 y x) fun d => ?_).trans (broadcastInDim_apply _ _ _ _ _ fun d => ?_)
  · match d with | ⟨0, _⟩ | ⟨1, _⟩ | ⟨2, _⟩ | ⟨3, _⟩ => rfl
  · match d with | ⟨0, _⟩ | ⟨1, _⟩ => rfl

/-- The rows' numbers. -/
theorem rows (y x : Fin 128) : broadcastInDim S128x128 ![0] bcast_S128_S128x128_0 (sitofp .f32 (iotaInDim S128 32 0) : FVec Ideal S128 .f32) (ix2 y x)
    = nat y.val := by
  refine (broadcastInDim_apply _ _ _ _ (ix1 y) fun d => ?_).trans (float_word y.val (by omega))
  match d with | ⟨0, _⟩ => rfl

/-- The columns' numbers. -/
theorem columns (y x : Fin 128) : broadcastInDim S128x128 ![1] bcast_S128_S128x128_1 (sitofp .f32 (iotaInDim S128 32 0) : FVec Ideal S128 .f32) (ix2 y x)
    = nat x.val := by
  refine (broadcastInDim_apply _ _ _ _ (ix1 x) fun d => ?_).trans (float_word x.val (by omega))
  match d with | ⟨0, _⟩ => rfl

/-- One over one plus the exponential of the negated is the logistic function. -/
theorem sigmoid {s : Shape} (h : S_.BroadcastsInDim s ![]) (u : s.Idx → EReal) (i : s.Idx) :
    Host.divf (F := Ideal) (φ := .f32) (broadcastInDim s ![] h (constant S_ .f32 0x3F800000#32))
      (addf (broadcastInDim s ![] h (constant S_ .f32 0x3F800000#32)) (Host.exp (Host.negf u))) i = Ideal.logistic (u i) := by
  show Ideal.div (Ideal.ofBits .f32 0x3F800000#32) (Ideal.ofBits .f32 0x3F800000#32 + Ideal.exp (-(u i))) = _
  rw [Ideal.ofBits_one_f32]
  rfl

/-- The anchors' sizes spread over everything else. -/
theorem anchors (a : Fin 32) (b : Fin 3) (y x : Fin 128) (c : Fin 2) :
    broadcastInDim S32x3x128x128x2 ![0, 1, 2, 3, 4] bcast_S1x3x1x1x2_S32x3x128x128x2_0_1_2_3_4
      (fun i => shapeCast S1x3x1x1x2 (fun i => FloatOps.ofBits .f32 (lit0 (S3x2.rowMajor i)) : FVec Ideal S3x2 .f32) shapeCasts_S3x2_S1x3x1x1x2 i)
      (ix5 a b y x c) = Ideal.ofBits .f32 (if c = 0 then widthWord b.val else heightWord b.val) := by
  refine (broadcastInDim_apply _ _ _ _ (ix5 (n0 := 1) (n2 := 1) (n3 := 1) 0 b 0 0 c) fun d => ?_).trans ?_
  · match d with | ⟨0, _⟩ | ⟨1, _⟩ | ⟨2, _⟩ | ⟨3, _⟩ | ⟨4, _⟩ => rfl
  refine (shapeCast_apply _ _ _ (ix2 b c) ?_).trans ?_
  · rw [Shape.rowMajor_val_five, Shape.rowMajor_val_two]
    show b.val * 2 + c.val = (((0 * 3 + b.val) * 1 + 0) * 1 + 0) * 2 + c.val
    omega
  refine congrArg (Ideal.ofBits .f32) ?_
  have e : S3x2.rowMajor (ix2 b c) = (⟨b.val * 2 + c.val, by omega⟩ : Fin 6) := Fin.ext (Shape.rowMajor_val_two _)
  rw [e]
  match b, c with
  | 0, 0 | 0, 1 | 1, 0 | 1, 1 | 2, 0 | 2, 1 => rfl

/-! ## The boxes -/

section Boxes
variable (V : Valuation τ sig (Elt Ideal)) (a : Fin 32) (b : Fin 3) (y x : Fin 128)

/-- The first argument. -/
abbrev arg0 : S32x3x128x128x5.Idx → EReal := V (Proc.devRef .tc main_arg0)

theorem read53 : upto ops V 70 (Proc.devRef .tc main_v53) (ix5 a b y x 0) = boxVal 0 b.val y.val x.val (arg0 V (ix5 a b y x 0)) := by
  after_reads_simp
  refine (widen _ a b y x).trans (congrArg (· * Ideal.ofBits .f32 0x41000000#32) (congrArg₂ (· + ·) ?_ ((spread _ a b y x).trans (columns y x))))
  exact (sigmoid _ _ _).trans (congrArg _ (cut 0 rfl _ _ a b y x))

theorem read54 : upto ops V 70 (Proc.devRef .tc main_v54) (ix5 a b y x 0) = boxVal 1 b.val y.val x.val (arg0 V (ix5 a b y x 1)) := by
  after_reads_simp
  refine (widen _ a b y x).trans (congrArg (· * Ideal.ofBits .f32 0x41000000#32) (congrArg₂ (· + ·) ?_ ((spread _ a b y x).trans (rows y x))))
  exact (sigmoid _ _ _).trans (congrArg _ (cut 1 rfl _ _ a b y x))

theorem read48 (c : Fin 2) : upto ops V 70 (Proc.devRef .tc main_v48) (ix5 a b y x c)
    = Ideal.exp (arg0 V (ix5 a b y x ⟨c.val + 2, by omega⟩)) * Ideal.ofBits .f32 (if c = 0 then widthWord b.val else heightWord b.val) := by
  after_reads_simp
  refine congrArg₂ (· * ·) (congrArg Ideal.exp ?_) (anchors a b y x c)
  refine extractStridedSlice_apply _ _ _ _ _ fun d => ?_
  match d with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => exact Nat.add_comm _ _

theorem read55 : upto ops V 70 (Proc.devRef .tc main_v55) (ix5 a b y x 0) = boxVal 4 b.val y.val x.val (arg0 V (ix5 a b y x 4)) := by
  after_reads_simp
  refine (widen _ a b y x).trans (Eq.trans ?_ (angle_eq _))
  refine congrArg (fun s => Ideal.div (s * Ideal.ofBits .f32 0x40000000#32 * Ideal.ofBits .f32 0x40490FDB#32 - Ideal.ofBits .f32 0x40490FDB#32)
      (Ideal.ofBits .f32 0x40490FDB#32) * Ideal.ofBits .f32 0x43340000#32) ?_
  exact (sigmoid _ _ _).trans (congrArg _ (cut 4 rfl _ _ a b y x))

theorem boxes_eq : after ops V (Proc.devRef .tc main_v73) = outBoxes (arg0 V) := by
  after_reads_simp
  refine funext fun (j : S32x49152x5.Idx) => ?_
  have h0 : (j 0).val < 32 := (j 0).isLt
  have h1 : (j 1).val < 49152 := (j 1).isLt
  refine (shapeCast_apply _ _ j (cellIdx j) ?_).trans ?_
  · refine ((Shape.rowMajor_val_five _).trans ?_).trans (Shape.rowMajor_val_three (d := ![32, 49152, 5]) j).symm
    show ((((j 0).val * 3 + (j 1).val / 16384) * 128 + (j 1).val / 128 % 128) * 128 + (j 1).val % 128) * 5 + (j 2).val
      = ((j 0).val * 49152 + (j 1).val) * 5 + (j 2).val
    omega
  exact pieces _ _ _ _ _ _ _ _ (j 2) (fun c => boxVal c.val ((j 1).val / 16384) ((j 1).val / 128 % 128) ((j 1).val % 128) (arg0 V (ix5 _ _ _ _ c)))
    (read53 V _ _ _ _) (read54 V _ _ _ _) (read48 V _ _ _ _ 0) (read48 V _ _ _ _ 1) (read55 V _ _ _ _)

end Boxes

end Cert.Proof.Ref

end
-- ==== Proof.Scores.lean ====
/- The reference's class numbers and scores. Its maximum and its arg-max run over an axis of one element, so the maximum is that
   element and the arg-max is zero. -/
module

public import proofs.«01_k».proof.Proof.Boxes

@[expose] public section

noncomputable section

namespace Cert.Proof.Ref

open Cert.ReferenceIdeal Cert.ReferenceIdeal.Gen
open Idealize.ShloMosaic hiding ix1 ix2 ix4 ix5
open Idealize.ShloMosaic.TcCoe Idealize.ShloMosaic.StableHlo Idealize.ShloMosaic.ValueIdx

/-! ## The last axis has one element -/

theorem drop_eq (i : S32x3x128x128x1.Idx) :
    reducesTo_S32x3x128x128x1_S32x3x128x128_d4.drop i = ix4 (i 0) (i 1) (i 2) (i 3) := by
  funext d
  match d with | ⟨0, _⟩ => rfl | ⟨1, _⟩ => rfl | ⟨2, _⟩ => rfl | ⟨3, _⟩ => rfl

theorem drop_iff (a : Fin 32) (b : Fin 3) (y x : Fin 128) (i : S32x3x128x128x1.Idx) :
    reducesTo_S32x3x128x128x1_S32x3x128x128_d4.drop i = ix4 a b y x ↔ i = ix5 a b y x 0 := by
  rw [drop_eq]
  constructor
  · intro h
    funext d
    match d with
    | ⟨0, _⟩ => exact congrFun h 0
    | ⟨1, _⟩ => exact congrFun h 1
    | ⟨2, _⟩ => exact congrFun h 2
    | ⟨3, _⟩ => exact congrFun h 3
    | ⟨4, _⟩ => exact Subsingleton.elim (α := Fin 1) _ _
  · rintro rfl
    rfl

/-- Where a reduced element comes from one element, these are its elements in order. -/
theorem fiber {s t : Shape} {axes : List (Fin s.rank)} (h : s.ReducesTo axes t) (j : t.Idx) (i : s.Idx) (hd : ∀ k, h.drop k = j ↔ k = i) :
    ((List.finRange s.numel).filter fun n => decide (h.drop (s.rowMajor.symm n) = j)) = [s.rowMajor i] := by
  refine List.perm_singleton.mp ((List.perm_ext_iff_of_nodup ((List.nodup_finRange _).filter _) (List.nodup_singleton _)).mpr fun n => ?_)
  rw [List.mem_filter, List.mem_singleton, decide_eq_true_iff, hd, Equiv.symm_apply_eq]
  exact and_iff_right (List.mem_finRange _)

/-- A maximum over one element, from minus infinity. -/
theorem max_single {s t : Shape} {axes : List (Fin s.rank)} (h : s.ReducesTo axes t) (j : t.Idx) (i : s.Idx)
    (hd : ∀ k, h.drop k = j ↔ k = i) (u : s.Idx → EReal) :
    Host.reduce (FloatOps.maximumf (F := Ideal) (φ := .f32)) u (constant (F := Ideal) S_ .f32 0xFF800000#32) h h_S_ j = u i := by
  unfold Host.reduce
  rw [fiber h j i hd, List.foldl_cons, List.foldl_nil, Equiv.symm_apply_apply]
  show max (Ideal.ofBits .f32 0xFF800000#32) (u i) = _
  rw [show Ideal.ofBits .f32 0xFF800000#32 = ⊥ by simp [Ideal.ofBits, Ideal.ieee]]
  exact max_eq_right bot_le

theorem max_one (u : S32x3x128x128x1.Idx → EReal) (a : Fin 32) (b : Fin 3) (y x : Fin 128) :
    Host.reduce (FloatOps.maximumf (F := Ideal) (φ := .f32)) u (constant (F := Ideal) S_ .f32 0xFF800000#32)
      reducesTo_S32x3x128x128x1_S32x3x128x128_d4 h_S_ (ix4 a b y x) = u (ix5 a b y x 0) :=
  max_single _ _ _ (drop_iff a b y x) u

/-- A choice between two pairs whose second parts are zero has second part zero. -/
theorem reducer_zero (p q : Ideal .f32 × BitVec 32) (hp : p.2 = 0#32) (hq : q.2 = 0#32) : (reducer_argmax_f32_i32 p q).2 = 0#32 := by
  unfold reducer_argmax_f32_i32 Scalar.select
  rw [hp, hq]
  exact ite_self _

/-- The arg-max of numbers that are all zero is zero. -/
theorem arg_zero {s t : Shape} {axes : List (Fin s.rank)} (h : s.ReducesTo axes t) (u : s.Idx → Ideal .f32) (n : s.Idx → BitVec 32)
    (v : S_.Idx → Ideal .f32) (k : S_.Idx → BitVec 32) (hn : ∀ i, n i = 0#32) (hk : ∀ i, k i = 0#32) (j : t.Idx) :
    (Host.argReduce (F := Ideal) (φ := .f32) reducer_argmax_f32_i32 u n v k h h_S_ j).2 = 0#32 := by
  have all : ∀ (l : List (Ideal .f32 × BitVec 32)) (_ : ∀ p ∈ l, p.2 = 0#32) (k : Fin l.length), (l.get k).2 = 0#32 :=
    fun l h k => h _ (List.get_mem l k)
  unfold Host.argReduce
  dsimp only
  split
  · refine all _ (fun p hp => ?_) _
    obtain ⟨i, -, e⟩ := List.mem_map.mp (List.mem_filter.mp hp).1
    rw [← e]
    exact hn _
  · unfold Host.reduce2
    have go : ∀ (l : List (Fin s.numel)) (p : Ideal .f32 × BitVec 32), p.2 = 0#32 →
        (l.foldl (fun r i => reducer_argmax_f32_i32 r (u (s.rowMajor.symm i), n (s.rowMajor.symm i))) p).2 = 0#32 := by
      intro l
      induction l with
      | nil => exact fun p hp => hp
      | cons i l ih => exact fun p hp => ih _ (reducer_zero _ _ hp (hn _))
    exact go _ _ (hk _)

/-! ## The results -/

variable (V : Valuation τ sig (Elt Ideal))

/-- The second argument. -/
abbrev arg1 : S32x3x128x128x1.Idx → EReal := V (Proc.devRef .tc main_arg1)
/-- The third argument. -/
abbrev arg2 : S32x3x128x128x1.Idx → EReal := V (Proc.devRef .tc main_arg2)

theorem classes_eq : after ops V (Proc.devRef .tc main_v74) = fun _ => (0#32 : BitVec 32) := by
  after_reads_simp [TRef.nullary, TRef.quaternary]
  funext j
  refine arg_zero _ _ _ _ _ (fun i => ?_) (fun _ => rfl) _
  show BitVec.ofNat 32 (i 4).val = 0#32
  rw [show (i 4).val = 0 from Nat.lt_one_iff.mp (i 4).isLt]

theorem scores_eq : after ops V (Proc.devRef .tc main_v75) = outScores (arg1 V) (arg2 V) := by
  after_reads_simp
  refine funext fun (j : S32x49152.Idx) => ?_
  have h0 : (j 0).val < 32 := (j 0).isLt
  have h1 : (j 1).val < 49152 := (j 1).isLt
  refine (shapeCast_apply _ _ j (planeCell j) ?_).trans ?_
  · refine ((Shape.rowMajor_val_five _).trans ?_).trans (Shape.rowMajor_val_two (d := ![32, 49152]) j).symm
    show ((((j 0).val * 3 + (j 1).val / 16384) * 128 + (j 1).val / 128 % 128) * 128 + (j 1).val % 128) * 1 + 0
      = (j 0).val * 49152 + (j 1).val
    omega
  refine congrArg₂ (· * ·) (sigmoid _ _ _) ?_
  exact ((widen _ _ _ _ _).trans (max_one _ _ _ _ _)).trans (sigmoid _ _ _)

end Cert.Proof.Ref

end
-- ==== Proof.lean ====
module

public import proofs.«01_k».proof.Defs
public import proofs.«01_k».proof.Proof.Gen.Kernel
public import proofs.«01_k».proof.Proof.Scores

@[expose] public section

noncomputable section

namespace Cert.Proof

open Idealize.ShloMosaic Idealize.SL.Sem

/-- The kernel's run over any floats, as the claims need it: the three results at the last state, the arguments kept, every
    semaphore at zero. -/
theorem run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ fun r =>
      (∀ d, r.2.mem (d, buf Cert.KernelIdeal.main_v7) = V4 m d (buf Cert.KernelIdeal.main_v7)
        ∧ r.2.mem (d, buf Cert.KernelIdeal.main_v11) = V4 m d (buf Cert.KernelIdeal.main_v11)
        ∧ r.2.mem (d, buf Cert.KernelIdeal.main_v9) = V4 m d (buf Cert.KernelIdeal.main_v9)
        ∧ r.2.mem (d, buf Cert.KernelIdeal.main_arg0) = m (d, buf Cert.KernelIdeal.main_arg0)
        ∧ r.2.mem (d, buf Cert.KernelIdeal.main_arg1) = m (d, buf Cert.KernelIdeal.main_arg1)
        ∧ r.2.mem (d, buf Cert.KernelIdeal.main_arg2) = m (d, buf Cert.KernelIdeal.main_arg2))
      ∧ r.2.sem = fun _ => 0 :=
  (θ_run Cert.KernelIdeal.defs _ _).mono (fun _ h => ⟨fun d =>
    ⟨h.1 d _ (unscoped_mem _), h.1 d _ (unscoped_mem _), h.1 d _ (unscoped_mem _),
      (h.1 d _ (unscoped_mem _)).trans (V4_arg m d _ (.inl rfl)),
      (h.1 d _ (unscoped_mem _)).trans (V4_arg m d _ (.inr (.inl rfl))),
      (h.1 d _ (unscoped_mem _)).trans (V4_arg m d _ (.inr (.inr rfl)))⟩, h.2⟩) (run_main m ρ)

theorem frame_kernelIdeal : Cert.quiescent_KernelIdeal := fun m ρ _ =>
  (θ_run Cert.KernelIdeal.defs _ _).mono (fun _ h => ⟨fun d => (h.1 d).2.2.2, h.2⟩) (run (F := Ideal) m ρ)

/-- The two programs have one text, so one table of bodies: each processor's and each label's. -/
theorem bodies_eq {F : FTy → Type} [FloatOps F] : Cert.Kernel.defs₀ (F := F) = Cert.KernelIdeal.defs₀ (F := F) := by
  funext p l a
  match p, l with
  | .scVector _ _, 0 => rfl
  | .scVector _ _, 1 => rfl
  | .scScalar _, 0 => rfl
  | .scScalar _, 1 => rfl
  | .tc, 0 => rfl
  | .tc, 1 => rfl

theorem defs_eq {F : FTy → Type} [FloatOps F] : Cert.Kernel.defs (F := F) = Cert.KernelIdeal.defs (F := F) :=
  congrArg (fun D => Cert.KernelIdeal.sc.defs (Pipeline.defs Cert.KernelIdeal.pcfgs D)) bodies_eq
theorem frame_kernel : Cert.quiescent_Kernel := fun m ρ _ => by
  rw [defs_eq]
  exact (θ_run Cert.KernelIdeal.defs _ _).mono (fun _ h => ⟨fun d => (h.1 d).2.2.2, h.2⟩) (run (F := Bits) m ρ)

theorem frame_reference : Cert.quiescent_ReferenceIdeal := fun m ρ _ =>
  (θ_run Cert.ReferenceIdeal.defs _ _).mono (fun _ h => ⟨fun d =>
    ⟨(h.1 d _).trans (Ref.keep0 _), (h.1 d _).trans (Ref.keep1 _), (h.1 d _).trans (Ref.keep2 _)⟩, h.2⟩) (Ref.run_main (F := Ideal) m ρ)

theorem value : Cert.algebraic_KernelIdeal_ReferenceIdeal := fun m ρ m' ρ' _ agree =>
  ⟨fun d => outBoxes (m (d, buf Cert.KernelIdeal.main_arg0)), fun _ _ => (0#32 : BitVec 32),
    fun d => outScores (m (d, buf Cert.KernelIdeal.main_arg1)) (m (d, buf Cert.KernelIdeal.main_arg2)),
    (θ_run Cert.KernelIdeal.defs _ _).mono (fun _ h d =>
      ⟨(h.1 d).1.trans (kernel_boxes m d), (h.1 d).2.1.trans (V4_v11 m d), (h.1 d).2.2.1.trans (kernel_scores m d), (h.1 d).2.2.2⟩)
      (run (F := Ideal) m ρ),
    (θ_run Cert.ReferenceIdeal.defs _ _).mono (fun _ h d =>
      ⟨((h.1 d _).trans (Ref.boxes_eq _)).trans (congrArg outBoxes (agree d).1),
        (h.1 d _).trans (Ref.classes_eq _),
        ((h.1 d _).trans (Ref.scores_eq _)).trans (congrArg₂ outScores (agree d).2.1 (agree d).2.2),
        (h.1 d _).trans (Ref.keep0 _), (h.1 d _).trans (Ref.keep1 _), (h.1 d _).trans (Ref.keep2 _)⟩)
      (Ref.run_main (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, value⟩

end Cert.Proof

end
